-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x2 : Shape := ⟨2, ![16384, 2]⟩
abbrev S100000x128 : Shape := ⟨2, ![100000, 128]⟩
abbrev S64x256 : Shape := ⟨2, ![64, 256]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S100000x128 .f32) (main_arg2 : FVec F S100000x128 .f32) (main_arg3 : FVec F S64x256 .f32) (main_arg4 : FVec F S64 .f32) (main_arg5 : FVec F S1x64 .f32) (main_arg6 : FVec F S1 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 100000#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S100000x128 : Shape := ⟨2, ![100000, 128]⟩
abbrev S64x256 : Shape := ⟨2, ![64, 256]⟩
abbrev S64 : Shape := ⟨1, ![64]⟩
abbrev S1x64 : Shape := ⟨2, ![1, 64]⟩
abbrev S1 : Shape := ⟨1, ![1]⟩
abbrev S16384x1 : Shape := ⟨2, ![16384, 1]⟩
abbrev S16384 : Shape := ⟨1, ![16384]⟩
abbrev S16384x128 : Shape := ⟨2, ![16384, 128]⟩
abbrev S512 : Shape := ⟨1, ![512]⟩
abbrev S7x128x128 : Shape := ⟨3, ![7, 128, 128]⟩
abbrev S7 : Shape := ⟨1, ![7]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S1x1 : Shape := ⟨2, ![1, 1]⟩
abbrev S8192x128 : Shape := ⟨2, ![8192, 128]⟩
abbrev S64x128 : Shape := ⟨2, ![64, 128]⟩
abbrev S8192x1 : Shape := ⟨2, ![8192, 1]⟩
abbrev S8192x64 : Shape := ⟨2, ![8192, 64]⟩
abbrev S8192 : Shape := ⟨1, ![8192]⟩

abbrev nBuf : Table → Nat
  | .hbm => 16
  | .local .tc .vmem => 11
  | .local .scVector .vmem => 3
  | _ => 0

abbrev bufTy : (tb : Table) → Fin (nBuf tb) → BufTy
  | .hbm, ⟨0, _⟩ => ⟨S16384x2, .i32⟩
  | .hbm, ⟨1, _⟩ => ⟨S100000x128, .f32⟩
  | .hbm, ⟨2, _⟩ => ⟨S100000x128, .f32⟩
  | .hbm, ⟨3, _⟩ => ⟨S64x256, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S16384x1, .i32⟩
  | .hbm, ⟨8, _⟩ => ⟨S16384, .i32⟩
  | .hbm, ⟨9, _⟩ => ⟨S16384x1, .i32⟩
  | .hbm, ⟨10, _⟩ => ⟨S16384, .i32⟩
  | .hbm, ⟨11, _⟩ => ⟨S16384x128, .f32⟩
  | .hbm, ⟨12, _⟩ => ⟨S16384x128, .f32⟩
  | .hbm, ⟨13, _⟩ => ⟨S1x64, .f32⟩
  | .hbm, ⟨14, _⟩ => ⟨S1x1, .f32⟩
  | .hbm, ⟨15, _⟩ => ⟨S16384x1, .f32⟩
  | .local .tc .vmem, ⟨0, _⟩ => ⟨S8192x128, .f32⟩
  | .local .tc .vmem, ⟨1, _⟩ => ⟨S8192x128, .f32⟩
  | .local .tc .vmem, ⟨2, _⟩ => ⟨S8192x128, .f32⟩
  | .local .tc .vmem, ⟨3, _⟩ => ⟨S8192x128, .f32⟩
  | .local .tc .vmem, ⟨4, _⟩ => ⟨S64x128, .f32⟩
  | .local .tc .vmem, ⟨5, _⟩ => ⟨S64x128, .f32⟩
  | .local .tc .vmem, ⟨6, _⟩ => ⟨S1x64, .f32⟩
  | .local .tc .vmem, ⟨7, _⟩ => ⟨S1x64, .f32⟩
  | .local .tc .vmem, ⟨8, _⟩ => ⟨S1x1, .f32⟩
  | .local .tc .vmem, ⟨9, _⟩ => ⟨S8192x1, .f32⟩
  | .local .tc .vmem, ⟨10, _⟩ => ⟨S8192x1, .f32⟩
  | .local .scVector .vmem, ⟨0, _⟩ => ⟨S512, .i32⟩
  | .local .scVector .vmem, ⟨1, _⟩ => ⟨S512, .i32⟩
  | .local .scVector .vmem, ⟨2, _⟩ => ⟨S7x128x128, .f32⟩
  | _, _ => ⟨S16384x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg1_scv : Ref sig .scVector := ⟨.hbm, 1, rfl⟩
abbrev main_arg2_scv : Ref sig .scVector := ⟨.hbm, 2, rfl⟩
abbrev main_v1_scv : Ref sig .scVector := ⟨.hbm, 8, rfl⟩
abbrev main_v3_scv : Ref sig .scVector := ⟨.hbm, 10, rfl⟩
abbrev main_v4_0_scv : Ref sig .scVector := ⟨.hbm, 11, rfl⟩
abbrev main_v4_1_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_47 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v51 : BitVec 32 := Scalar.addi v2 c0_i32_47
  let c0_i32_52 : BitVec 32 := 0#32
  ![v51.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2 : Shape := ⟨2, ![16384, 2]⟩
abbrev S100000x128 : Shape := ⟨2, ![100000, 128]⟩
abbrev S64x256 : Shape := ⟨2, ![64, 256]⟩
abbrev S64 : Shape := ⟨1, ![64]⟩
abbrev S1x64 : Shape := ⟨2, ![1, 64]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x128 : Shape := ⟨2, ![16384, 128]⟩
abbrev S16384x256 : Shape := ⟨2, ![16384, 256]⟩
abbrev S256x64 : Shape := ⟨2, ![256, 64]⟩
abbrev S16384x64 : Shape := ⟨2, ![16384, 64]⟩
abbrev S64x1 : Shape := ⟨2, ![64, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S100000x128, .f32⟩
  | .hbm, ⟨2, _⟩ => ⟨S100000x128, .f32⟩
  | .hbm, ⟨3, _⟩ => ⟨S64x256, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S16384x1, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x128, .f32⟩
  | .hbm, ⟨28, _⟩ => ⟨S16384x128, .i1⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S16384x1, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384x128, .f32⟩
  | .hbm, ⟨53, _⟩ => ⟨S16384x128, .i1⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x256, .f32⟩
  | .hbm, ⟨58, _⟩ => ⟨S256x64, .f32⟩
  | .hbm, ⟨59, _⟩ => ⟨S16384x64, .f32⟩
  | .hbm, ⟨60, _⟩ => ⟨S1x64, .f32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S16384x64, .f32⟩
  | .hbm, ⟨65, _⟩ => ⟨S16384x64, .f32⟩
  | .hbm, ⟨66, _⟩ => ⟨S64x1, .f32⟩
  | .hbm, ⟨67, _⟩ => ⟨S16384x1, .f32⟩
  | .hbm, ⟨68, _⟩ => ⟨S1x1, .f32⟩
  | .hbm, ⟨69, _⟩ => ⟨S16384x1, .f32⟩
  | .hbm, ⟨70, _⟩ => ⟨S16384x1, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩

abbrev nD : Nat := 1
abbrev τ : Topo := Topo.v7x

variable {F : FTy → Type} [FloatOps F]
-- ==== Proof.Base.lean ====
/-
  The set-up the proof of the gather kernel rests on: the launch configuration, the resource algebra, the arrays the
  SparseCore call works on as its tiles address them, and what a tile's transfers leave.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the one TensorCore pipeline over the printed bodies. -/
abbrev ΛP : Labels := Pipeline.Sig Λ₀ (Fin 1) fun p => (pcfgs (F := F) p).Adm
/-- The SparseCore launch configuration. -/
abbrev K : SparseCore.Cfg τ sig (ΛP (F := F)) 1 := sc (F := F)
/-- The program's definitions under the pipeline's entry. -/
abbrev D [FloatOps F] : Defs nD τ sig (Elt F) (ΛP (F := F)) := Pipeline.defs pcfgs defs₀
/-- No variants: the program has no loop of unknown length. -/
abbrev 𝒱₀ : Variants := Variants.none
/-- The variants under the pipeline's and the launch's labels. -/
abbrev 𝒱 : Variants := 𝒱₀.lift
/-- The variant every tile's task starts at. -/
abbrev v₀ : 𝒱.V := Sum.inl none

/-- The call occupies both SparseCores. -/
theorem nCore_zero : (K (F := F)).nCore 0 = 2 := rfl
/-- The call occupies sixteen subcores of each. -/
theorem nSub_zero : (K (F := F)).nSub 0 = 16 := rfl

/-- The side conditions of the launch: the handshake's semaphores are distinct and none is a scoped one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

/-- The rounds of the launch handshakes. -/
abbrev UH : Type := URounds (GSem nD τ sig) ℕ
/-- The rounds of the TensorCore pipeline. -/
abbrev UP : Type := URounds (GSem nD τ sig) Unit
/-- The whole of the user's algebra. -/
abbrev UU : Type := UH × (UP × Counters)

local notation "𝕄" => MT nD τ sig (HIx 1) (Elt F) ℕ UU ℕ

/-- The handshakes' rounds, the first factor. -/
abbrev EH : Emb UH (MT nD τ sig (HIx 1) (Elt F) ℕ UU ℕ) := embL

/-! ## The arrays -/

variable (m : (ℓ : Loc nD τ sig) → Buf (Elt F) ℓ) (ρ : Dev nD → PrngReg)

/-- The first table. -/
abbrev tpLoc (d : Dev nD) : Loc nD τ sig := (SparseCore.T d).loc main_arg1
/-- The second table. -/
abbrev tnLoc (d : Dev nD) : Loc nD τ sig := (SparseCore.T d).loc main_arg2
/-- The first column of the row numbers. -/
abbrev ipLoc (d : Dev nD) : Loc nD τ sig := (SparseCore.T d).loc main_v1
/-- The second column of the row numbers. -/
abbrev inLoc (d : Dev nD) : Loc nD τ sig := (SparseCore.T d).loc main_v3
/-- The rows gathered from the first table. -/
abbrev opLoc (d : Dev nD) : Loc nD τ sig := (SparseCore.T d).loc main_v4_0
/-- The rows gathered from the second table. -/
abbrev onLoc (d : Dev nD) : Loc nD τ sig := (SparseCore.T d).loc main_v4_1

/-- The first table, as a task addresses it. -/
abbrev tpV : Memref sig .scVector .hbm S100000x128 .f32 := Memref.whole main_arg1_scv
/-- The second table, as a task addresses it. -/
abbrev tnV : Memref sig .scVector .hbm S100000x128 .f32 := Memref.whole main_arg2_scv
/-- The first column of the row numbers, as a task addresses it. -/
abbrev ipV : Memref sig .scVector .hbm S16384 .i32 := Memref.whole main_v1_scv
/-- The second column of the row numbers, as a task addresses it. -/
abbrev inV : Memref sig .scVector .hbm S16384 .i32 := Memref.whole main_v3_scv
/-- The first result, as a task addresses it. -/
abbrev opV : Memref sig .scVector .hbm S16384x128 .f32 := Memref.whole main_v4_0_scv
/-- The second result, as a task addresses it. -/
abbrev onV : Memref sig .scVector .hbm S16384x128 .f32 := Memref.whole main_v4_1_scv
/-- A task's first list of row numbers. -/
abbrev lpV : Memref sig .scVector .vmem S512 .i32 := Memref.whole cc0_scratch0
/-- A task's second list of row numbers. -/
abbrev lnV : Memref sig .scVector .vmem S512 .i32 := Memref.whole cc0_scratch1
/-- A task's seven slots of 128 rows. -/
abbrev rV : Memref sig .scVector .vmem S7x128x128 .f32 := Memref.whole cc0_scratch2

/-! ## What the SparseCore call computes -/

/-- The table row a row number names (any number of rows or more wraps, which no row number does). -/
def rowOf (w : BitVec 32) : Fin 100000 := ⟨w.toNat % 100000, Nat.mod_lt _ (by decide)⟩

/-- A row number below the number of rows names the row it says. -/
theorem rowOf_val {w : BitVec 32} (h : w.toNat < 100000) : (rowOf w).val = w.toNat := Nat.mod_eq_of_lt h

/-- The gathered array: row `r` is the table's row that the `r`-th row number names. -/
def gath (t : S100000x128.Idx → Elt F .f32) (i : S16384.Idx → BitVec 32) : S16384x128.Idx → Elt F .f32 :=
  fun x => t (ix2 (rowOf (i (ix1 (x 0)))) (x 1))

/-! ## A tile's blocks -/

/-- The SparseCore a task runs on. -/
abbrev cV (L : grid0.Coords) : Fin τ.nSC := (L 0).castLE hcore0
/-- The subcore a task runs on. -/
abbrev jV (L : grid0.Coords) : Fin τ.nSub := (L 1).castLE hsub0

/-- The thread a task runs on. -/
abbrev tV (d : Dev nD) (L : grid0.Coords) : Thread nD τ := V d (cV L) (jV L)

/-- The 512 row numbers of a task in the first column. -/
abbrev ipK (L : grid0.Coords) : Memref sig .scVector .hbm S512 .i32 :=
  ipV.slice (Rect.unit (s := S16384) (k0_off1 L) S512.size (k0_off1_inb L)) (fun _ => rfl)
/-- The 512 row numbers of a task in the second column. -/
abbrev inK (L : grid0.Coords) : Memref sig .scVector .hbm S512 .i32 :=
  inV.slice (Rect.unit (s := S16384) (k0_off1 L) S512.size (k0_off1_inb L)) (fun _ => rfl)
/-- The rectangle of a task's `r`-th block of 128 rows. -/
abbrev oR (L : grid0.Coords) (r : Fin 4) : Rect S16384x128 :=
  Rect.unit (s := S16384x128) (k0_off2 L (BitVec.ofNat 32 (128 * r.val))) S128x128.size (k0_off2_inb L r)
/-- A task's `r`-th block of the first result. -/
abbrev opK (L : grid0.Coords) (r : Fin 4) : Memref sig .scVector .hbm S128x128 .f32 := opV.slice (oR L r) (fun _ => rfl)
/-- A task's `r`-th block of the second result. -/
abbrev onK (L : grid0.Coords) (r : Fin 4) : Memref sig .scVector .hbm S128x128 .f32 := onV.slice (oR L r) (fun _ => rfl)
/-- The elements of a task's `r`-th block. -/
abbrev oSet (L : grid0.Coords) (r : Fin 4) : Finset S16384x128.Idx := (oR L r).set

/-- The share a task holds of what all tasks read: one of sixteen tokens of its core's, one of two. -/
abbrev qV (L : grid0.Coords) : PosShare TreeShare := Transfers.shareTok (Transfers.shareTok fullShare 2 (L 0)) 16 (L 1)

end Cert.Proof.Gather
-- ==== Proof.Region.lean ====
/-
  The TensorCore's kernel: the two matrix products over the gathered rows, their sum clipped below at zero and weighed
  into one column. Its body run, the proof data of its pipeline from any contents of its arrays, and its run inside @main.
-/
module

public import proofs.«01_k».proof.Proof.Base
public import proofs.«01_k».proof.Proof.Gen.KernelIdeal.Launch
public import proofs.«01_k».proof.Proof.Gen.KernelIdeal.Points
public import Idealize.ShloMosaic.Lib.Pipeline.RegionArrays
public import Idealize.ShloMosaic.Lib.SparseCore.Threads

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body, run by the executor -/

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
/-- The buffer of `M` held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the result's buffer, as a function of its seven operands' buffers, with the run that leaves it. -/
def bodyRun (c : Dev nD) (i : grid1.Coords) (M0 : Memref sig .tc .vmem S8192x128 .f32) (h0 : M0.IsWhole) (M1 : Memref sig .tc .vmem S8192x128 .f32) (h1 : M1.IsWhole)
    (M2 : Memref sig .tc .vmem S64x128 .f32) (h2 : M2.IsWhole) (M3 : Memref sig .tc .vmem S64x128 .f32) (h3 : M3.IsWhole)
    (M4 : Memref sig .tc .vmem S1x64 .f32) (h4 : M4.IsWhole) (M5 : Memref sig .tc .vmem S1x64 .f32) (h5 : M5.IsWhole)
    (M6 : Memref sig .tc .vmem S1x1 .f32) (h6 : M6.IsWhole) (M7 : Memref sig .tc .vmem S8192x1 .f32) (h7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    { W : Bf (F := F) c M7 // ∀ (E : Set ℕ) (Q : PUnit → sProp 𝕄),
        iprop((pt c M0 f0 ∗ pt c M1 f1 ∗ pt c M2 f2 ∗ pt c M3 f3 ∗ pt c M4 f4 ∗ pt c M5 f5 ∗ pt c M6 f6 ∗ pt c M7 f7)
          ∗ (iprop(pt c M0 f0 ∗ pt c M1 f1 ∗ pt c M2 f2 ∗ pt c M3 f3 ∗ pt c M4 f4 ∗ pt c M5 f5 ∗ pt c M6 f6 ∗ pt c M7 W) -∗ Q ⟨⟩))
          ⊢ wp frame (wpE (defs₀ (F := F)) 𝒱₀ c none) E (cc1_body i M0 h0 M1 h1 M2 h2 M3 h3 M4 h4 M5 h5 M6 h6 M7 h7) Q } := by
  refine ⟨?_, fun E Q => ?run⟩
  case run =>
    rw [cc1_body_eq_skeleton]
    unfold cc1_body_skel
    iintro ⟨⟨H0, H1, H2, H3, H4, H5, H6, H7⟩, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- A rectangle from the origin of the shape's own size is the whole shape. -/
theorem unit_zero_emb {S : Shape} (off : Fin S.rank → ℕ) (h0 : ∀ a, off a = 0) (h : ∀ a, off a + S.size a ≤ S.size a) (x : S.Idx) :
    (Rect.unit (s := S) off S.size h).emb x = x := by
  funext a; apply Fin.ext; rw [Rect.emb_apply]; simp [Rect.unit, h0]

/-- A read after one write of the whole shape gives what was written. -/
theorem read_writes_unit0 {κ : Kind} {sp : Space} {s : Shape} {e : EltTy} (v : View sig κ sp s e) (f : v.ty.Contents (Elt F))
    (off : Fin s.rank → ℕ) (h0 : ∀ a, off a = 0) (h : ∀ a, off a + s.size a ≤ s.size a)
    (w : s.Idx → Elt F e) (l : List (View.Piece (Elt F) s e)) : v.read (Elt F) (v.writes (Elt F) f (⟨Rect.unit (s := s) off s.size h, w⟩ :: l)) = w := by
  funext x
  rw [View.writes_cons]
  have h : (v.slice (Rect.unit (s := s) off s.size h)).emb x = v.emb x := by
    rw [View.emb_slice]; exact congrArg v.emb (unit_zero_emb off h0 h x)
  rw [View.read_apply, ← h, View.write_emb_of_mem _ _ (Finset.mem_univ _), cast_cast, cast_eq]

/-- A read of the whole shape at the origin is the view's read. -/
theorem readAt_unit0 {κ : Kind} {sp : Space} {s : Shape} {e : EltTy} (v : View sig κ sp s e) (f : v.ty.Contents (Elt F))
    (off : Fin s.rank → ℕ) (h0 : ∀ a, off a = 0) (h : ∀ a, off a + s.size a ≤ s.size a) :
    v.readAt (Elt F) (Rect.unit (s := s) off s.size h).toLoadRect f = v.read (Elt F) f := by
  funext x
  exact congrArg (v.read (Elt F) f) (unit_zero_emb off h0 h x)

/-- The offsets at the origin of a matrix. -/
theorem zero2 : ∀ a : Fin 2, (![0, 0] : Fin 2 → ℕ) a = 0 := by decide

/-- Read through its view, the result's buffer holds the kernel's payload of the operands read through theirs. -/
theorem bodyRun_read (c : Dev nD) (i : grid1.Coords) (M0 : Memref sig .tc .vmem S8192x128 .f32) (h0 : M0.IsWhole) (M1 : Memref sig .tc .vmem S8192x128 .f32) (h1 : M1.IsWhole)
    (M2 : Memref sig .tc .vmem S64x128 .f32) (h2 : M2.IsWhole) (M3 : Memref sig .tc .vmem S64x128 .f32) (h3 : M3.IsWhole)
    (M4 : Memref sig .tc .vmem S1x64 .f32) (h4 : M4.IsWhole) (M5 : Memref sig .tc .vmem S1x64 .f32) (h5 : M5.IsWhole)
    (M6 : Memref sig .tc .vmem S1x1 .f32) (h6 : M6.IsWhole) (M7 : Memref sig .tc .vmem S8192x1 .f32) (h7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) :
    M7.view.read (Elt F) (bodyRun c i M0 h0 M1 h1 M2 h2 M3 h3 M4 h4 M5 h5 M6 h6 M7 h7 f0 f1 f2 f3 f4 f5 f6 f7).1
      = k1_pay1 (M0.view.read _ f0) (M2.view.read _ f2) (M1.view.read _ f1) (M3.view.read _ f3) (M4.view.read _ f4) (M5.view.read _ f5) (M6.view.read _ f6) := by
  unfold bodyRun
  dsimp only
  unfold bodyRun.sl.H7_1
  rw [read_writes_unit0 M7.view _ _ zero2]
  congr 1 <;> exact readAt_unit0 _ _ _ zero2 _

/-! ## The proof data, at any contents of the arrays -/

/-- What the pipeline's arrays hold when it is entered: the gathered rows, the first weights (which two windows read), the
    first bias, the second weights, the second bias and the result. -/
structure Entry (F : FTy → Type) where
  xp : S16384x128.Idx → Elt F .f32
  xn : S16384x128.Idx → Elt F .f32
  w1 : S64x256.Idx → Elt F .f32
  b1 : S1x64.Idx → Elt F .f32
  w2 : S1x64.Idx → Elt F .f32
  b2 : S1x1.Idx → Elt F .f32
  out : S16384x1.Idx → Elt F .f32

variable (X : Entry F)

/-- The array each window reads or writes, at the entry's contents. -/
def arrs (c : Dev nD) : (w : Fin 8) → Buf (Elt F) (((win1 w).arr).view.loc (c : Thread nD τ))
  | 0 => X.xp
  | 1 => X.xn
  | 2 => X.w1
  | 3 => X.w1
  | 4 => X.b1
  | 5 => X.w2
  | 6 => X.b2
  | 7 => X.out
  | ⟨_ + 8, h⟩ => absurd h (Nat.not_lt.2 (Nat.le_add_left _ _))

/-- A window's block of its array at a point. -/
def stg (c : Dev nD) : (w : Fin 8) → Fin cfg1.N → (win1 w).block.Idx → Elt F (win1 w).elt
  | 0 => fun t => (win1_0.blk t).view.read (Elt F) (arrs X c 0)
  | 1 => fun t => (win1_1.blk t).view.read (Elt F) (arrs X c 1)
  | 2 => fun t => (win1_2.blk t).view.read (Elt F) (arrs X c 2)
  | 3 => fun t => (win1_3.blk t).view.read (Elt F) (arrs X c 3)
  | 4 => fun t => (win1_4.blk t).view.read (Elt F) (arrs X c 4)
  | 5 => fun t => (win1_5.blk t).view.read (Elt F) (arrs X c 5)
  | 6 => fun t => (win1_6.blk t).view.read (Elt F) (arrs X c 6)
  | 7 => fun t => (win1_7.blk t).view.read (Elt F) (arrs X c 7)
  | ⟨_ + 8, h⟩ => absurd h (Nat.not_lt.2 (Nat.le_add_left _ _))

/-- What the body leaves in the result's buffer at a point. -/
def outBlk (c : Dev nD) (t : Fin cfg1.N) : S8192x1.Idx → Elt F .f32 :=
  k1_pay1 (stg X c 0 t) (stg X c 2 t) (stg X c 1 t) (stg X c 3 t) (stg X c 4 t) (stg X c 5 t) (stg X c 6 t)

/-- What a window's buffer holds after the body at a point: an operand's block as fetched, the result's payload. -/
def afters (c : Dev nD) : (w : Fin 8) → Fin cfg1.N → (win1 w).block.Idx → Elt F (win1 w).elt
  | 7 => outBlk X c
  | w => stg X c w

/-- The share of its array a window is handed: the two windows of the first weights have half each. -/
def winShare : Fin 8 → PosShare TreeShare
  | 2 => fullShare.left
  | 3 => fullShare.right
  | _ => fullShare

/-- The invariant between the points: the scoped buffers the pipeline does not stage. -/
abbrev Φc (c : Dev nD) : sProp 𝕄 := Pipeline.scopedRest (Ix := HIx 1) (Name := ℕ) (U := UU) (Lvl := ℕ) (Val := Elt F) spec1 c

/-- The proof data of the pipeline entered at `X`. -/
def dat (c : Dev nD) : Dat τ (Elt F) (HIx 1) ℕ UU ℕ cfg1 c where
  A := arrs X c
  after := afters X c
  Φ _ := Φc c
  q := winShare
  owed _ := 0

/-- The pipeline prefetches no table. -/
abbrev adm : (p : Fin 1) → (pcfgs (F := F) p).Adm := fun p => (cfgs p).toPCfg_adm

/-- The proof data of every pipeline of the program: the one. -/
def pdats : (p : Fin 1) → (c : Dev nD) → Dat τ (Elt F) (HIx 1) ℕ UU ℕ (Pipeline.pin (pcfgs (F := F)) adm p) c
  | ⟨0, _⟩ => fun c => dat X c

/-- A memref on a whole buffer is owned at what its buffer, held, reads as. -/
theorem owns_pt (c : Dev nD) {sp : Space} {S : Shape} {e : EltTy} (M : Memref sig .tc sp S e) (h : M.IsWhole) (Y : S.Idx → Elt F e) :
    (owns (c : Thread nD τ) M fullShare Y : sProp 𝕄) = iprop(∃ f, ⌜M.view.read (Elt F) f = Y⌝ ∗ pt c M f) := by
  unfold owns pt
  rw [h.set_eq_univ]

/-- A window that is read only holds its block when the body runs. -/
theorem before_in (c : Dev nD) (w : Fin 8) (h : w ≠ 7) (t : Fin cfg1.N) (d : (cfg1.win w).block.Idx → Elt F (cfg1.win w).elt) :
    (dat X c).before w t d = stg X c w t := by
  by_cases hf : (cfg1.win w).fetch t = true
  · rw [Dat.before_fetched _ _ _ hf]
    match w, h with
    | 0, _ => rfl
    | 1, _ => rfl
    | 2, _ => rfl
    | 3, _ => rfl
    | 4, _ => rfl
    | 5, _ => rfl
    | 6, _ => rfl
    | 7, h => exact absurd rfl h
  · match w, h with
    | 0, _ => exact absurd (fetch1_0 t) hf
    | 1, _ => exact absurd (fetch1_1 t) hf
    | 2, _ => rw [Dat.before_unfetched_in (dat X c) 2 rfl t (Bool.not_eq_true _ ▸ hf) (fun _ => rfl)]; rfl
    | 3, _ => rw [Dat.before_unfetched_in (dat X c) 3 rfl t (Bool.not_eq_true _ ▸ hf) (fun _ => rfl)]; rfl
    | 4, _ => rw [Dat.before_unfetched_in (dat X c) 4 rfl t (Bool.not_eq_true _ ▸ hf) (fun _ => rfl)]; rfl
    | 5, _ => rw [Dat.before_unfetched_in (dat X c) 5 rfl t (Bool.not_eq_true _ ▸ hf) (fun _ => rfl)]; rfl
    | 6, _ => rw [Dat.before_unfetched_in (dat X c) 6 rfl t (Bool.not_eq_true _ ▸ hf) (fun _ => rfl)]; rfl
    | 7, h => exact absurd rfl h

/-- The staging buffer a window's point has is a whole buffer. -/
theorem whole_st (w : Fin 8) (t : Fin cfg1.N) : ((cfg1.win w).stage (cfg1.slots t w)).IsWhole := launch₀1.stage_whole w _

/-- The pipeline's obligation on its body: from the operands' blocks the body leaves them and, in the result's buffer, its
    payload of them. -/
theorem body_obligation (c : Dev nD) : BodyObligation (dat X c) (defs₀ (F := F)) 𝒱₀ none Set.univ := fun t => by
  rw [bigSep_W1, bigSep_W1]
  simp only [owns_pt c (st1_0 t) (whole_st 0 t), owns_pt c (st1_1 t) (whole_st 1 t), owns_pt c (st1_2 t) (whole_st 2 t), owns_pt c (st1_3 t) (whole_st 3 t),
    owns_pt c (st1_4 t) (whole_st 4 t), owns_pt c (st1_5 t) (whole_st 5 t), owns_pt c (st1_6 t) (whole_st 6 t), owns_pt c (st1_7 t) (whole_st 7 t)]
  rw [show (dat X c).Φ t.castSucc = Φc c from rfl, show (dat X c).Φ t.succ = Φc c from rfl,
    show (dat X c).owesAt none t.succ = (dat X c).owesAt none t.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, -, H7⟩⟩
  rw [before_in X c 0 (by decide)] at h0
  rw [before_in X c 1 (by decide)] at h1
  rw [before_in X c 2 (by decide)] at h2
  rw [before_in X c 3 (by decide)] at h3
  rw [before_in X c 4 (by decide)] at h4
  rw [before_in X c 5 (by decide)] at h5
  rw [before_in X c 6 (by decide)] at h6
  iapply ((bodyRun c (grid1.coords t) (st1_0 t) (whole_st 0 t) (st1_1 t) (whole_st 1 t) (st1_2 t) (whole_st 2 t) (st1_3 t) (whole_st 3 t)
    (st1_4 t) (whole_st 4 t) (st1_5 t) (whole_st 5 t) (st1_6 t) (whole_st 6 t) (st1_7 t) (whole_st 7 t) f0 f1 f2 f3 f4 f5 f6 f7).2 Set.univ _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Howes]; · iexact Howes
  isplitl [H0]; · iexists f0; isplitr; (· ipureintro; exact h0); iexact H0
  isplitl [H1]; · iexists f1; isplitr; (· ipureintro; exact h1); iexact H1
  isplitl [H2]; · iexists f2; isplitr; (· ipureintro; exact h2); iexact H2
  isplitl [H3]; · iexists f3; isplitr; (· ipureintro; exact h3); iexact H3
  isplitl [H4]; · iexists f4; isplitr; (· ipureintro; exact h4); iexact H4
  isplitl [H5]; · iexists f5; isplitr; (· ipureintro; exact h5); iexact H5
  isplitl [H6]; · iexists f6; isplitr; (· ipureintro; exact h6); iexact H6
  iexists _
  isplitr; swap; (· iexact H7)
  ipureintro
  refine (bodyRun_read c (grid1.coords t) (st1_0 t) (whole_st 0 t) (st1_1 t) (whole_st 1 t) (st1_2 t) (whole_st 2 t) (st1_3 t) (whole_st 3 t)
    (st1_4 t) (whole_st 4 t) (st1_5 t) (whole_st 5 t) (st1_6 t) (whole_st 6 t) (st1_7 t) (whole_st 7 t) f0 f1 f2 f3 f4 f5 f6 f7).trans ?_
  rw [h0, h1, h2, h3, h4, h5, h6]
  rfl

/-! ## The region inside @main -/

/-- The pipeline's rounds, the middle factor. -/
abbrev EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)

instance EP_landsIn : (EP : Emb UP 𝕄).LandsIn (upEmb : UEmb _ 𝕄) := by unfold EP; infer_instance

/-- The staging cells of the program's pipeline are distinct. -/
theorem cells_inj : Function.Injective (cellOf (nD := nD) (τ := τ) (Pipeline.pin (pcfgs (F := F)) adm)) := cellOf_inj

/-- No one waits on a staging cell while owing anything. -/
theorem levelCut : Pipeline.LevelCut (pcfgs (F := F)) adm (none : HIx 1) (K (F := F)).L (K (F := F)).lev 0 (fun _ => 0) (fun _ : Dev nD => 0) where
  hι _ _ _ := Finset.mem_univ _
  hιb _ _ _ := le_rfl
  hD _ _ _ h := absurd h (Nat.lt_irrefl 0)

/-- The TensorCore kernel's region, entered with its arrays at `X`. -/
def reg : Pipeline.RegionSeg (pcfgs (F := F)) adm (pdats X) (none : HIx 1) defs₀ 𝒱₀ (K (F := F)).L (K (F := F)).lev 0 :=
  Pipeline.RegionSeg.ofArrays (pcfgs (F := F)) adm (pdats X) none defs₀ 𝒱₀ (K (F := F)).L (K (F := F)).lev 0 (fun _ => 0)
    (fun _ => BI.emp) (fun _ => BI.emp) (launch₀1.toP (Val := Elt F)) rfl (fun c => (body_obligation X c).loose) (fun _ _ => rfl) (fun _ => rfl)
    (fun c => show iprop(Φc c ∗ BI.emp) ⊢ (Φc c : sProp 𝕄) from by iintro ⟨H, -⟩; iexact H)
    (fun c => show (Φc c : sProp 𝕄) ⊢ iprop(Φc c ∗ BI.emp) from by iintro H; isplitl [H]; · iexact H
                                                                   iempintro)
    (fun _ => 0) levelCut (fun _ => BI.emp)

variable [∀ e, Nonempty (Elt F e)]

/-- The call of the pipeline as @main holds it is the pipeline's own call, lifted. -/
theorem entry_lift : (Prog.lift (.customCall (SparseCore.inner (Pipeline.entry 0)) ()) :
      Prog (TpuEff nD τ sig (Elt F) (SparseCore.Sig (ΛP (F := F)) 1) .tc) PUnit)
    = SparseCore.liftProg (Prog.lift (.customCall (Pipeline.entry 0) ()) : Prog (TpuEff nD τ sig (Elt F) (ΛP (F := F)) .tc) PUnit) := by
  rfl

/-- The call of the pipeline inside @main: from its arrays at `X`, to its arrays after every point. -/
theorem region_wp (c : Dev nD) (Q : PUnit → sProp 𝕄) :
    iprop((iprop(boundary (c : Thread nD τ) ∗ (reg X).post c) -∗ Q ⟨⟩)
        ∗ boundary (c : Thread nD τ) ∗ (reg X).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (c : Thread nD τ) none) Set.univ
          (Prog.lift (.customCall (SparseCore.inner (Pipeline.entry 0)) ())) Q := by
  rw [entry_lift]
  refine BIBase.Entails.trans ?_ ((K (F := F)).wp_liftProg D 𝒱 (c : Thread nD τ) Set.univ none _ Q)
  refine BIBase.Entails.trans ?_ (Pipeline.RegionSeg.wp (pcfgs (F := F)) adm (pdats X) none cells_inj EP defs₀ 𝒱₀ (K (F := F)).L (K (F := F)).lev (reg X) c none
    (fun u h => absurd h (Option.not_mem_none u)) _ Q)
  iintro ⟨Hk, H⟩
  isplitl [Hk]
  · iintro Hp
    sl_step
    iapply Hk
    iexact Hp
  iexact H

end Cert.Proof.Gather
-- ==== Proof.Call.lean ====
/-
  The TensorCore kernel's call as @main makes it: from the seven arrays it reads and its result's, held whole, to the same
  with the result's at what the kernel's points left.
-/
module

public import proofs.«01_k».proof.Proof.Region

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable [∀ e, Nonempty (Elt F e)] (X : Entry F) (d : Dev nD)

/-- The row numbers, both columns. -/
abbrev a0Loc (d : Dev nD) : Loc nD τ sig := (SparseCore.T d).loc main_arg0
/-- The first weights. -/
abbrev a3Loc (d : Dev nD) : Loc nD τ sig := (SparseCore.T d).loc main_arg3
/-- The first bias. -/
abbrev a4Loc (d : Dev nD) : Loc nD τ sig := (SparseCore.T d).loc main_arg4
/-- The second weights. -/
abbrev a5Loc (d : Dev nD) : Loc nD τ sig := (SparseCore.T d).loc main_arg5
/-- The second bias. -/
abbrev a6Loc (d : Dev nD) : Loc nD τ sig := (SparseCore.T d).loc main_arg6
/-- The first bias as a row. -/
abbrev v5Loc (d : Dev nD) : Loc nD τ sig := (SparseCore.T d).loc main_v5
/-- The second bias as a matrix of one element. -/
abbrev v6Loc (d : Dev nD) : Loc nD τ sig := (SparseCore.T d).loc main_v6
/-- The result. -/
abbrev v7Loc (d : Dev nD) : Loc nD τ sig := (SparseCore.T d).loc main_v7

/-- The kernel's arrays held whole: the operands at the entry's contents, the result at `o`. -/
def callPts (o : S16384x1.Idx → Elt F .f32) : sProp 𝕄 :=
  iprop((opLoc d ↦{fullShare} X.xp) ∗ (onLoc d ↦{fullShare} X.xn) ∗ (a3Loc d ↦{fullShare} X.w1)
    ∗ (v5Loc d ↦{fullShare} X.b1) ∗ (a5Loc d ↦{fullShare} X.w2) ∗ (v6Loc d ↦{fullShare} X.b2)
    ∗ (v7Loc d ↦{fullShare} o))

/-- What the result holds after the kernel's points. -/
def outArr : S16384x1.Idx → Elt F .f32 := (dat X d).arrAt 7 cfg1.N

/-- An operand's array holds at every point what it held at entry. -/
theorem arrAt_operand (w : Fin 8) (h : (cfg1.win w).isOut = false) (n : ℕ) : (dat X d).arrAt w n = arrs X d w := (dat X d).arrAt_in w h n

/-- The pipeline's arrays, one by one: the first weights' in two halves. -/
theorem arrays_eq (n : ℕ) (o : S16384x1.Idx → Elt F .f32) (ho : (dat X d).arrAt 7 n = o) :
    ((dat X d).arrays ((dat X d).arrAt · n) : sProp 𝕄)
      = iprop((opLoc d ↦{fullShare} X.xp) ∗ (onLoc d ↦{fullShare} X.xn) ∗ (a3Loc d ↦{fullShare.left} X.w1)
        ∗ (a3Loc d ↦{fullShare.right} X.w1) ∗ (v5Loc d ↦{fullShare} X.b1) ∗ (a5Loc d ↦{fullShare} X.w2)
        ∗ (v6Loc d ↦{fullShare} X.b2) ∗ (v7Loc d ↦{fullShare} o)) := by
  have hw (w : Fin 8) : ((cfg1.win w).arr).view.set = Finset.univ := (launch₀1.arr_whole w).set_eq_univ
  unfold Dat.arrays
  rw [bigSep_W1]
  rw [hw 0, hw 1, hw 2, hw 4, hw 5, hw 6, hw 7]
  beta_reduce
  rw [ho, arrAt_operand X d 0 rfl, arrAt_operand X d 1 rfl, arrAt_operand X d 2 rfl,
    arrAt_operand X d 3 rfl, arrAt_operand X d 4 rfl, arrAt_operand X d 5 rfl, arrAt_operand X d 6 rfl]
  rfl

/-- The pipeline's arrays are the kernel's arrays held whole. -/
theorem arrays_pts (n : ℕ) (o : S16384x1.Idx → Elt F .f32) (ho : (dat X d).arrAt 7 n = o) :
    ((dat X d).arrays ((dat X d).arrAt · n) : sProp 𝕄) ⊣⊢ callPts X d o := by
  rw [arrays_eq X d n o ho]
  unfold callPts
  have hs := pointsTo_share (nD := nD) (τ := τ) (sig := sig) (Ix := HIx 1) (Val := Elt F) (Name := ℕ) (U := UU) (Lvl := ℕ)
    (ℓ := a3Loc d) (f := X.w1) (I := Finset.univ) (PosShare.mem_left_op_right fullShare)
  constructor
  · iintro ⟨H0, H1, H2, H3, H4, H5, H6, H7⟩
    isplitl [H0]; · iexact H0
    isplitl [H1]; · iexact H1
    isplitl [H2 H3]
    · iapply hs.2
      isplitl [H2]; · iexact H2
      iexact H3
    isplitl [H4]; · iexact H4
    isplitl [H5]; · iexact H5
    isplitl [H6]; · iexact H6
    iexact H7
  · iintro ⟨H0, H1, H2, H4, H5, H6, H7⟩
    isplitl [H0]; · iexact H0
    isplitl [H1]; · iexact H1
    ihave H := hs.1 $$ H2
    icases H with ⟨H2, H3⟩
    isplitl [H2]; · iexact H2
    isplitl [H3]; · iexact H3
    isplitl [H4]; · iexact H4
    isplitl [H5]; · iexact H5
    isplitl [H6]; · iexact H6
    iexact H7

/-- The ghost state the pipeline's call takes. -/
def callGhost : sProp 𝕄 :=
  iprop(Pipeline.cellsGhost (Pipeline.pin (pcfgs (F := F)) adm) EP 0 d ∗ Pipeline.toksInit (Pipeline.pin (pcfgs (F := F)) adm) EP 0 d)

/-- The call of the TensorCore kernel inside @main. -/
theorem call_wp (Q : PUnit → sProp 𝕄) :
    iprop((iprop(boundary (SparseCore.T d) ∗ callPts X d (outArr X d) ∗ ∃ W, owes (SparseCore.T d) (0 : CellTallies nD τ sig (HIx 1)) W) -∗ Q ⟨⟩)
        ∗ boundary (SparseCore.T d) ∗ callPts X d X.out ∗ (∃ W, owes (SparseCore.T d) (0 : CellTallies nD τ sig (HIx 1)) W)
        ∗ levAts (K (F := F)).L (K (F := F)).lev ∗ callGhost d)
      ⊢ wp frame (wpE ((K (F := F)).defs D) 𝒱 (SparseCore.T d) none) Set.univ
          (Prog.lift (.customCall (SparseCore.inner (Pipeline.entry 0)) ())) Q := by
  refine BIBase.Entails.trans ?_ (region_wp X d Q)
  rw [show (reg X).post d = (iprop((dat X d).arrays ((dat X d).arrAt · cfg1.N) ∗ BI.emp ∗ BI.emp
      ∗ ∃ W, owes (d : Thread nD τ) (0 : CellTallies nD τ sig (HIx 1)) W) : sProp 𝕄) from rfl,
    show (reg X).pre d = (iprop((dat X d).arrays ((dat X d).arrAt · 0) ∗ BI.emp ∗ BI.emp
      ∗ ∃ W, owes (d : Thread nD τ) (0 : CellTallies nD τ sig (HIx 1)) W) : sProp 𝕄) from rfl]
  unfold callGhost
  iintro ⟨Hk, Hb, Hp, Ho, Hl, Hc, Ht⟩
  isplitl [Hk]
  · iintro ⟨Hb, Ha, -, -, Ho⟩
    iapply Hk
    isplitl [Hb]; · iexact Hb
    isplitl [Ha]; · iapply (arrays_pts X d cfg1.N _ rfl).1; iexact Ha
    iexact Ho
  isplitl [Hb]; · iexact Hb
  isplitl [Hp Ho]
  · isplitl [Hp]; · iapply (arrays_pts X d 0 _ rfl).2; iexact Hp
    isplitr; · iempintro
    isplitr; · iempintro
    iexact Ho
  isplitl [Hl]; · iexact Hl
  isplitl [Hc]; · iexact Hc
  iexact Ht

end Cert.Proof.Gather
-- ==== Proof.Gathered.lean ====
/-
  What a task's transfers leave: reading back what was written whole, and the indirect gather's payload as rows of the
  gathered array.
-/
module

public import proofs.«01_k».proof.Proof.Base

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Reading back -/

/-- A read through a view whose last write covered it whole gives that write's payload. -/
theorem read_writes_whole {κ : Kind} {sp : Space} {s : Shape} {e : EltTy} (v : View sig κ sp s e) (f : v.ty.Contents (Elt F))
    (w : s.Idx → Elt F e) (l : List (View.Piece (Elt F) s e)) : v.read (Elt F) (v.writes (Elt F) f (⟨Rect.whole s, w⟩ :: l)) = w := by
  funext x
  rw [View.writes_cons]
  have h : (v.slice (Rect.whole s)).emb x = v.emb x := by
    rw [View.emb_slice]; exact congrArg v.emb (Rect.emb_whole_apply s x)
  rw [View.read_apply, ← h, View.write_emb_of_mem _ _ (Finset.mem_univ _), cast_cast, cast_eq]

/-- The list entry an index's row takes its row number from. -/
theorem rowMajor_entry (hn : S128.numel = 128) (k : Fin 128) : S128.rowMajor.symm (k.cast hn.symm) = (ix1 k : S128.Idx) :=
  (Equiv.symm_apply_eq S128.rowMajor).mpr (Fin.ext (by rw [rowMajor_val1]; rfl))

/-- The indirect gather's payload at an index, given what the offset list holds for its row. -/
theorem gather_core (t : S100000x128.Idx → Elt F .f32) (i : S16384.Idx → BitVec 32) (lst : S128.Idx → Elt F .i32) (hn : S128.numel = 128)
    (h : ∀ x, (lst x).toNat < 100000) (j : S128x128.Idx) (k : Fin 128) (x : S16384x128.Idx) (y : Fin 16384) (hk : j 0 = k) (hy : x 0 = y)
    (hl : lst (ix1 k) = i (ix1 y)) (hj : j 1 = x 1) :
    SparseCore.gatherPayload gathers_S100000x128_S128x128 t (SparseCore.rows lst hn h) j = gath t i x := by
  subst hk hy
  unfold SparseCore.gatherPayload gath
  congr 1
  funext b
  match b with
  | ⟨0, _⟩ =>
    apply Fin.ext
    refine (congrArg Fin.val (Shape.Gathers.idx_axis gathers_S100000x128_S128x128 (SparseCore.rows lst hn h) j)).trans ?_
    refine (congrArg (fun z => (lst z).toNat) (rowMajor_entry hn (j 0))).trans ?_
    exact (congrArg BitVec.toNat hl).trans (rowOf_val (hl ▸ h _)).symm
  | ⟨1, _⟩ =>
    apply Fin.ext
    refine (Shape.Gathers.idx_of_ne gathers_S100000x128_S128x128 (SparseCore.rows lst hn h) j 1 (by decide)).trans ?_
    exact congrArg Fin.val hj

/-! ## A task's blocks, element by element -/

variable (d : Dev nD) (L : grid0.Coords)

/-- The row of the result that row `k` of a task's `r`-th block is. -/
theorem oR_emb_zero (r : Fin 4) (j : S128x128.Idx) : ((oR L r).emb j 0).val = 1024 * (L 1).val + 512 * (L 0).val + 128 * r.val + (j 0).val := by
  rw [Rect.emb_apply]
  show k0_off2 L (BitVec.ofNat 32 (128 * r.val)) 0 + 1 * (j 0).val = _
  rw [k0_off2_eq]; simp
/-- A block holds whole rows. -/
theorem oR_emb_one (r : Fin 4) (j : S128x128.Idx) : ((oR L r).emb j 1).val = (j 1).val := by
  rw [Rect.emb_apply]
  show k0_off2 L (BitVec.ofNat 32 (128 * r.val)) 1 + 1 * (j 1).val = _
  rw [k0_off2_eq]; simp

/-- What a task's gather over the `r`-th window of its first list delivers: the rows of the gathered array at the task's
    `r`-th block. -/
theorem gathered_p (t : Buf (Elt F) (tpLoc d)) (i : Buf (Elt F) (ipLoc d)) (f : Buf (Elt F) ((V d (cV L) (jV L)).loc cc0_scratch0))
    (r : Fin 4) (o : ℕ) (ho : o = 128 * r.val) (hw : ∀ a, (![o] : Fin 1 → ℕ) a + S128.size a ≤ S512.size a) (ht) (hn : S128.numel = 128)
    (h : ∀ x, (View.read (Elt F) (lpV.slice (Rect.unit (s := S512) ![o] S128.size hw) (fun _ => rfl)).view
      (View.write (Elt F) lpV.view f ((ipK L).view.read (Elt F) i) Finset.univ) x).toNat < 100000) (j : S128x128.Idx) :
    SparseCore.gatherPayload gathers_S100000x128_S128x128
        (View.read (Elt F) (tpV.slice (Rect.unit (s := S100000x128) ![0, 0] S100000x128.size ht) (fun _ => rfl)).view t)
        (SparseCore.rows (View.read (Elt F) (lpV.slice (Rect.unit (s := S512) ![o] S128.size hw) (fun _ => rfl)).view
          (View.write (Elt F) lpV.view f ((ipK L).view.read (Elt F) i) Finset.univ)) hn h) j
      = gath t i ((opK L r).view.emb j) := by
  subst ho
  have h0 : (j 0).val < 128 := (j 0).isLt
  have hL0 : (L 0).val < 2 := (L 0).isLt
  have hL1 : (L 1).val < 16 := (L 1).isLt
  have hT : View.read (Elt F) (tpV.slice (Rect.unit (s := S100000x128) ![0, 0] S100000x128.size ht) (fun _ => rfl)).view t = t := by
    funext x
    refine ((View.read_apply _ _).trans (cast_eq _ _)).trans (congrArg t (funext fun b => Fin.ext ?_))
    match b with
    | ⟨0, _⟩ => exact (Nat.zero_add _).trans (Nat.one_mul _)
    | ⟨1, _⟩ => exact (Nat.zero_add _).trans (Nat.one_mul _)
  rw [hT]
  refine gather_core t i _ hn h j (j 0) _ ⟨1024 * (L 1).val + 512 * (L 0).val + 128 * r.val + (j 0).val, by omega⟩ rfl (Fin.ext (oR_emb_zero L r j)) ?_ (Fin.ext (oR_emb_one L r j).symm)
  rw [View.write_whole_univ]
  refine ((View.read_apply _ _).trans (cast_eq _ _)).trans (((View.read_apply _ _).trans (cast_eq _ _)).trans (congrArg i (funext fun b => Fin.ext ?_)))
  match b with
  | ⟨0, _⟩ =>
    show k0_off1 L 0 + 1 * (128 * r.val + 1 * (j 0).val) = 1024 * (L 1).val + 512 * (L 0).val + 128 * r.val + (j 0).val
    rw [k0_off1_eq]; simp; omega

/-- What a task's gather over the `r`-th window of its second list delivers: the rows of the gathered array at the task's
    `r`-th block. -/
theorem gathered_n (t : Buf (Elt F) (tnLoc d)) (i : Buf (Elt F) (inLoc d)) (f : Buf (Elt F) ((V d (cV L) (jV L)).loc cc0_scratch1))
    (r : Fin 4) (o : ℕ) (ho : o = 128 * r.val) (hw : ∀ a, (![o] : Fin 1 → ℕ) a + S128.size a ≤ S512.size a) (ht) (hn : S128.numel = 128)
    (h : ∀ x, (View.read (Elt F) (lnV.slice (Rect.unit (s := S512) ![o] S128.size hw) (fun _ => rfl)).view
      (View.write (Elt F) lnV.view f ((inK L).view.read (Elt F) i) Finset.univ) x).toNat < 100000) (j : S128x128.Idx) :
    SparseCore.gatherPayload gathers_S100000x128_S128x128
        (View.read (Elt F) (tnV.slice (Rect.unit (s := S100000x128) ![0, 0] S100000x128.size ht) (fun _ => rfl)).view t)
        (SparseCore.rows (View.read (Elt F) (lnV.slice (Rect.unit (s := S512) ![o] S128.size hw) (fun _ => rfl)).view
          (View.write (Elt F) lnV.view f ((inK L).view.read (Elt F) i) Finset.univ)) hn h) j
      = gath t i ((onK L r).view.emb j) := by
  subst ho
  have h0 : (j 0).val < 128 := (j 0).isLt
  have hL0 : (L 0).val < 2 := (L 0).isLt
  have hL1 : (L 1).val < 16 := (L 1).isLt
  have hT : View.read (Elt F) (tnV.slice (Rect.unit (s := S100000x128) ![0, 0] S100000x128.size ht) (fun _ => rfl)).view t = t := by
    funext x
    refine ((View.read_apply _ _).trans (cast_eq _ _)).trans (congrArg t (funext fun b => Fin.ext ?_))
    match b with
    | ⟨0, _⟩ => exact (Nat.zero_add _).trans (Nat.one_mul _)
    | ⟨1, _⟩ => exact (Nat.zero_add _).trans (Nat.one_mul _)
  rw [hT]
  refine gather_core t i _ hn h j (j 0) _ ⟨1024 * (L 1).val + 512 * (L 0).val + 128 * r.val + (j 0).val, by omega⟩ rfl (Fin.ext (oR_emb_zero L r j)) ?_ (Fin.ext (oR_emb_one L r j).symm)
  rw [View.write_whole_univ]
  refine ((View.read_apply _ _).trans (cast_eq _ _)).trans (((View.read_apply _ _).trans (cast_eq _ _)).trans (congrArg i (funext fun b => Fin.ext ?_)))
  match b with
  | ⟨0, _⟩ =>
    show k0_off1 L 0 + 1 * (128 * r.val + 1 * (j 0).val) = 1024 * (L 1).val + 512 * (L 0).val + 128 * r.val + (j 0).val
    rw [k0_off1_eq]; simp; omega

local notation "𝕄" => MT nD τ sig (HIx 1) (Elt F) ℕ UU ℕ

/-- A task's `r`-th block of the first result, written with the gathered rows, holds the gathered array there. -/
theorem block_p (t : Buf (Elt F) (tpLoc d)) (i : Buf (Elt F) (ipLoc d)) (r : Fin 4) (f : Buf (Elt F) (opLoc d)) (w : S128x128.Idx → Elt F .f32)
    (hw : ∀ j, w j = gath t i ((opK L r).view.emb j)) :
    ((opK L r).view.loc (tV d L) ↦[(opK L r).view.set]{fullShare} (opK L r).view.writes (Elt F) f [⟨Rect.whole S128x128, w⟩] : sProp 𝕄)
      = (opLoc d ↦[oSet L r]{fullShare} gath t i) := by
  have hs : (opK L r).view.set = oSet L r := View.set_slice_whole _ _
  refine (pointsTo_congr fun x hx => ?_).trans (congrArg (fun S => (opLoc d ↦[S]{fullShare} gath t i : sProp 𝕄)) hs)
  obtain ⟨j, -, rfl⟩ := Finset.mem_map.mp hx
  exact (((View.read_apply _ _).trans (cast_eq _ _)).symm.trans (congrFun (read_writes_whole (opK L r).view f w []) j)).trans (hw j)
/-- A task's `r`-th block of the second result, written with the gathered rows, holds the gathered array there. -/
theorem block_n (t : Buf (Elt F) (tnLoc d)) (i : Buf (Elt F) (inLoc d)) (r : Fin 4) (f : Buf (Elt F) (onLoc d)) (w : S128x128.Idx → Elt F .f32)
    (hw : ∀ j, w j = gath t i ((onK L r).view.emb j)) :
    ((onK L r).view.loc (tV d L) ↦[(onK L r).view.set]{fullShare} (onK L r).view.writes (Elt F) f [⟨Rect.whole S128x128, w⟩] : sProp 𝕄)
      = (onLoc d ↦[oSet L r]{fullShare} gath t i) := by
  have hs : (onK L r).view.set = oSet L r := View.set_slice_whole _ _
  refine (pointsTo_congr fun x hx => ?_).trans (congrArg (fun S => (onLoc d ↦[S]{fullShare} gath t i : sProp 𝕄)) hs)
  obtain ⟨j, -, rfl⟩ := Finset.mem_map.mp hx
  exact (((View.read_apply _ _).trans (cast_eq _ _)).symm.trans (congrFun (read_writes_whole (onK L r).view f w []) j)).trans (hw j)

end Cert.Proof.Gather
-- ==== Proof.Tile.lean ====
/-
  One tile's task of the gather kernel, run once at a symbolic (SparseCore, subcore).
-/
module

public import proofs.«01_k».proof.Proof.Gathered

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- A tile's transfer semaphore. -/
abbrev semC (k : ℕ) (h : k < 27 := by decide) : GSem nD τ sig := (tV d L, .dma ⟨k, h⟩)

/-- A task's slot of 128 rows at offset `o` of its scratch. -/
abbrev slot (o : ℕ) (h : ∀ a, (![o, 0, 0] : Fin 3 → ℕ) a + S1x128x128.size a ≤ S7x128x128.size a) : Memref sig .scVector .vmem S128x128 .f32 :=
  (rV.slice (Rect.unit (s := S7x128x128) ![o, 0, 0] S1x128x128.size h) (fun _ => rfl)).squeeze S128x128 squeezes_S1x128x128_S128x128
/-- A slot held outright at some contents. -/
abbrev slotPts (o : ℕ) (h : ∀ a, (![o, 0, 0] : Fin 3 → ℕ) a + S1x128x128.size a ≤ S7x128x128.size a) : sProp 𝕄 :=
  iprop(∃ f, (slot o h).view.loc (tV d L) ↦[(slot o h).view.set]{fullShare} f)

/-- A window of the first list read after the fetch holds words of the fetched block. -/
theorem inb_lp (pay : S512.Idx → BitVec 32) (hpay : ∀ j, (pay j).toNat < 100000) (g : Buf (Elt F) ((tV d L).loc cc0_scratch0)) (o : ℕ) (h) :
    ∀ x, (View.read (Elt F) (lpV.slice (Rect.unit (s := S512) ![o] S128.size h) (fun _ => rfl)).view (View.write (Elt F) lpV.view g pay Finset.univ) x).toNat < 100000 := by
  intro x
  rw [View.write_whole_univ, show ∀ j, (lpV.slice (Rect.unit (s := S512) ![o] S128.size h) (fun _ => rfl)).view.read (Elt F) pay j
    = pay ((lpV.slice (Rect.unit (s := S512) ![o] S128.size h) (fun _ => rfl)).view.emb j) from fun j => (View.read_apply _ _).trans (cast_eq _ _)]
  exact hpay _
/-- The same of the second list. -/
theorem inb_ln (pay : S512.Idx → BitVec 32) (hpay : ∀ j, (pay j).toNat < 100000) (g : Buf (Elt F) ((tV d L).loc cc0_scratch1)) (o : ℕ) (h) :
    ∀ x, (View.read (Elt F) (lnV.slice (Rect.unit (s := S512) ![o] S128.size h) (fun _ => rfl)).view (View.write (Elt F) lnV.view g pay Finset.univ) x).toNat < 100000 := by
  intro x
  rw [View.write_whole_univ, show ∀ j, (lnV.slice (Rect.unit (s := S512) ![o] S128.size h) (fun _ => rfl)).view.read (Elt F) pay j
    = pay ((lnV.slice (Rect.unit (s := S512) ![o] S128.size h) (fun _ => rfl)).view.emb j) from fun j => (View.read_apply _ _).trans (cast_eq _ _)]
  exact hpay _
/-- The row numbers a task fetches from the first column are words of it. -/
theorem fetch_ip (ip : Buf (Elt F) (ipLoc d)) (hp : ∀ j, (ip j).toNat < 100000) (j : S512.Idx) : ((ipK L).view.read (Elt F) ip j : BitVec 32).toNat < 100000 := by
  rw [show (ipK L).view.read (Elt F) ip j = ip ((ipK L).view.emb j) from (View.read_apply _ _).trans (cast_eq _ _)]; exact hp _
/-- The same of the second column. -/
theorem fetch_in (iN : Buf (Elt F) (inLoc d)) (hn : ∀ j, (iN j).toNat < 100000) (j : S512.Idx) : ((inK L).view.read (Elt F) iN j : BitVec 32).toNat < 100000 := by
  rw [show (inK L).view.read (Elt F) iN j = iN ((inK L).view.emb j) from (View.read_apply _ _).trans (cast_eq _ _)]; exact hn _

set_option maxHeartbeats 4000000 in
/-- A task's run: the two lists fetched, the eight indirect gathers through the seven slots, each slot's rows written out
    to its block once gathered. The blocks come back holding the gathered arrays. -/
theorem tile_run (q : PosShare TreeShare) (tp : Buf (Elt F) (tpLoc d)) (tn : Buf (Elt F) (tnLoc d)) (ip : Buf (Elt F) (ipLoc d)) (iN : Buf (Elt F) (inLoc d))
    (fp : Buf (Elt F) (opLoc d)) (fn : Buf (Elt F) (onLoc d))
    (flp : Buf (Elt F) ((tV d L).loc cc0_scratch0)) (fln : Buf (Elt F) ((tV d L).loc cc0_scratch1)) (fr : Buf (Elt F) ((tV d L).loc cc0_scratch2))
    (hp : ∀ j, (ip j).toNat < 100000) (hn : ∀ j, (iN j).toNat < 100000)
    (O : CellTallies nD τ sig (HIx 1)) (W : Waits sig (HIx 1)) :
    (iprop(Transfers.MayWaits (tV d L) (default : HIx 1) O
        ∗ (ipV.view.loc (tV d L) ↦{q} ip) ∗ (inV.view.loc (tV d L) ↦{q} iN)
        ∗ ((tpV.view.loc (tV d L) ↦{Transfers.shareTok q 7 0} tp) ∗ (tpV.view.loc (tV d L) ↦{Transfers.shareTok q 7 1} tp) ∗ (tpV.view.loc (tV d L) ↦{Transfers.shareTok q 7 2} tp) ∗ (tpV.view.loc (tV d L) ↦{Transfers.shareTok q 7 3} tp))
        ∗ ((tnV.view.loc (tV d L) ↦{Transfers.shareTok q 7 0} tn) ∗ (tnV.view.loc (tV d L) ↦{Transfers.shareTok q 7 4} tn) ∗ (tnV.view.loc (tV d L) ↦{Transfers.shareTok q 7 5} tn) ∗ (tnV.view.loc (tV d L) ↦{Transfers.shareTok q 7 6} tn))
        ∗ (((opK L 0).view.loc (tV d L) ↦[(opK L 0).view.set]{fullShare} fp) ∗ ((opK L 1).view.loc (tV d L) ↦[(opK L 1).view.set]{fullShare} fp) ∗ ((opK L 2).view.loc (tV d L) ↦[(opK L 2).view.set]{fullShare} fp) ∗ ((opK L 3).view.loc (tV d L) ↦[(opK L 3).view.set]{fullShare} fp))
        ∗ (((onK L 0).view.loc (tV d L) ↦[(onK L 0).view.set]{fullShare} fn) ∗ ((onK L 1).view.loc (tV d L) ↦[(onK L 1).view.set]{fullShare} fn) ∗ ((onK L 2).view.loc (tV d L) ↦[(onK L 2).view.set]{fullShare} fn) ∗ ((onK L 3).view.loc (tV d L) ↦[(onK L 3).view.set]{fullShare} fn))
        ∗ (lpV.view.loc (tV d L) ↦{fullShare} flp) ∗ (lnV.view.loc (tV d L) ↦{fullShare} fln)
        ∗ (((slot 0 inb_S7x128x128_S1x128x128_0_0_0).view.loc (tV d L) ↦[(slot 0 inb_S7x128x128_S1x128x128_0_0_0).view.set]{fullShare} fr) ∗ ((slot 1 inb_S7x128x128_S1x128x128_1_0_0).view.loc (tV d L) ↦[(slot 1 inb_S7x128x128_S1x128x128_1_0_0).view.set]{fullShare} fr) ∗ ((slot 2 inb_S7x128x128_S1x128x128_2_0_0).view.loc (tV d L) ↦[(slot 2 inb_S7x128x128_S1x128x128_2_0_0).view.set]{fullShare} fr) ∗ ((slot 3 inb_S7x128x128_S1x128x128_3_0_0).view.loc (tV d L) ↦[(slot 3 inb_S7x128x128_S1x128x128_3_0_0).view.set]{fullShare} fr) ∗ ((slot 4 inb_S7x128x128_S1x128x128_4_0_0).view.loc (tV d L) ↦[(slot 4 inb_S7x128x128_S1x128x128_4_0_0).view.set]{fullShare} fr) ∗ ((slot 5 inb_S7x128x128_S1x128x128_5_0_0).view.loc (tV d L) ↦[(slot 5 inb_S7x128x128_S1x128x128_5_0_0).view.set]{fullShare} fr) ∗ ((slot 6 inb_S7x128x128_S1x128x128_6_0_0).view.loc (tV d L) ↦[(slot 6 inb_S7x128x128_S1x128x128_6_0_0).view.set]{fullShare} fr))
        ∗ (semVal (semC d L 0) 0 ∗ semVal (semC d L 1) 0 ∗ semVal (semC d L 2) 0 ∗ semVal (semC d L 3) 0 ∗ semVal (semC d L 4) 0 ∗ semVal (semC d L 5) 0 ∗ semVal (semC d L 6) 0 ∗ semVal (semC d L 7) 0 ∗ semVal (semC d L 8) 0 ∗ semVal (semC d L 9) 0 ∗ semVal (semC d L 10) 0 ∗ semVal (semC d L 11) 0 ∗ semVal (semC d L 12) 0 ∗ semVal (semC d L 13) 0 ∗ semVal (semC d L 14) 0 ∗ semVal (semC d L 15) 0)
        ∗ owes (tV d L) O W) : sProp 𝕄)
      ⊢ wp frame (wpE (defs₀ (F := F)) 𝒱₀ (tV d L) none) Set.univ
          (cc0_gather_kernel L tpV (Memref.isWhole_whole _) tnV (Memref.isWhole_whole _) ipV (Memref.isWhole_whole _) inV (Memref.isWhole_whole _)
            opV (Memref.isWhole_whole _) onV (Memref.isWhole_whole _) lpV (Memref.isWhole_whole _) lnV (Memref.isWhole_whole _) rV (Memref.isWhole_whole _)
            cc0_scratch3 cc0_scratch4 cc0_scoped0 cc0_scoped1)
          fun _ => (iprop((ipV.view.loc (tV d L) ↦{q} ip) ∗ (inV.view.loc (tV d L) ↦{q} iN)
        ∗ ((tpV.view.loc (tV d L) ↦{Transfers.shareTok q 7 0} tp) ∗ (tpV.view.loc (tV d L) ↦{Transfers.shareTok q 7 1} tp) ∗ (tpV.view.loc (tV d L) ↦{Transfers.shareTok q 7 2} tp) ∗ (tpV.view.loc (tV d L) ↦{Transfers.shareTok q 7 3} tp))
        ∗ ((tnV.view.loc (tV d L) ↦{Transfers.shareTok q 7 0} tn) ∗ (tnV.view.loc (tV d L) ↦{Transfers.shareTok q 7 4} tn) ∗ (tnV.view.loc (tV d L) ↦{Transfers.shareTok q 7 5} tn) ∗ (tnV.view.loc (tV d L) ↦{Transfers.shareTok q 7 6} tn))
        ∗ ((opLoc d ↦[oSet L 0]{fullShare} gath tp ip) ∗ (opLoc d ↦[oSet L 1]{fullShare} gath tp ip) ∗ (opLoc d ↦[oSet L 2]{fullShare} gath tp ip) ∗ (opLoc d ↦[oSet L 3]{fullShare} gath tp ip))
        ∗ ((onLoc d ↦[oSet L 0]{fullShare} gath tn iN) ∗ (onLoc d ↦[oSet L 1]{fullShare} gath tn iN) ∗ (onLoc d ↦[oSet L 2]{fullShare} gath tn iN) ∗ (onLoc d ↦[oSet L 3]{fullShare} gath tn iN))
        ∗ (∃ f, lpV.view.loc (tV d L) ↦{fullShare} f) ∗ (∃ f, lnV.view.loc (tV d L) ↦{fullShare} f)
        ∗ (slotPts (F := F) d L 0 inb_S7x128x128_S1x128x128_0_0_0 ∗ slotPts (F := F) d L 1 inb_S7x128x128_S1x128x128_1_0_0 ∗ slotPts (F := F) d L 2 inb_S7x128x128_S1x128x128_2_0_0 ∗ slotPts (F := F) d L 3 inb_S7x128x128_S1x128x128_3_0_0 ∗ slotPts (F := F) d L 4 inb_S7x128x128_S1x128x128_4_0_0 ∗ slotPts (F := F) d L 5 inb_S7x128x128_S1x128x128_5_0_0 ∗ slotPts (F := F) d L 6 inb_S7x128x128_S1x128x128_6_0_0)
        ∗ (semVal (semC d L 0) 0 ∗ semVal (semC d L 1) 0 ∗ semVal (semC d L 2) 0 ∗ semVal (semC d L 3) 0 ∗ semVal (semC d L 4) 0 ∗ semVal (semC d L 5) 0 ∗ semVal (semC d L 6) 0 ∗ semVal (semC d L 7) 0 ∗ semVal (semC d L 8) 0 ∗ semVal (semC d L 9) 0 ∗ semVal (semC d L 10) 0 ∗ semVal (semC d L 11) 0 ∗ semVal (semC d L 12) 0 ∗ semVal (semC d L 13) 0 ∗ semVal (semC d L 14) 0 ∗ semVal (semC d L 15) 0)
        ∗ ∃ W', ⌜∀ p ∈ W', p ∈ W ∨ p.2 = none⌝ ∗ owes (tV d L) O W') : sProp 𝕄) := by
  rw [cc0_gather_kernel_eq_skeleton]; unfold cc0_gather_kernel_skel
  iintro ⟨Hmw, Hip, Hin, ⟨Htp0, Htp1, Htp2, Htp3⟩, ⟨Htn0, Htn4, Htn5, Htn6⟩, ⟨Hop0, Hop1, Hop2, Hop3⟩, ⟨Hon0, Hon1, Hon2, Hon3⟩, Hlp, Hln,
    ⟨Hr0, Hr1, Hr2, Hr3, Hr4, Hr5, Hr6⟩, ⟨Hs0, Hs1, Hs2, Hs3, Hs4, Hs5, Hs6, Hs7, Hs8, Hs9, Hs10, Hs11, Hs12, Hs13, Hs14, Hs15⟩, HO⟩
  -- the two fetches, up to the first gather, whose row numbers are to be shown in range
  sl_exec
  have hp0 := inb_lp d L _ (fetch_ip d L ip hp) flp 0 inb_S512_S128_0
  have hp1 := inb_lp d L _ (fetch_ip d L ip hp) flp 128 inb_S512_S128_128
  have hp2 := inb_lp d L _ (fetch_ip d L ip hp) flp 256 inb_S512_S128_256
  have hp3 := inb_lp d L _ (fetch_ip d L ip hp) flp 384 inb_S512_S128_384
  have hn0 := inb_ln d L _ (fetch_in d L iN hn) fln 0 inb_S512_S128_0
  have hn1 := inb_ln d L _ (fetch_in d L iN hn) fln 128 inb_S512_S128_128
  have hn2 := inb_ln d L _ (fetch_in d L iN hn) fln 256 inb_S512_S128_256
  have hn3 := inb_ln d L _ (fetch_in d L iN hn) fln 384 inb_S512_S128_384
  -- the eight gathers and the eight writes
  sl_exec
  sl_step
  -- each block's payload is its slot read after the gather that filled it
  have vp0 := block_p d L tp ip 0 fp (tile_run.sl.dma0_2 d L tp ip flp fr hp0)
    (fun j => (congrFun (read_writes_whole _ _ _ _) j).trans (gathered_p d L tp ip flp 0 0 rfl _ _ _ hp0 j))
  have vp1 := block_p d L tp ip 1 fp (tile_run.sl.dma0_3 d L tp ip flp fr hp1)
    (fun j => (congrFun (read_writes_whole _ _ _ _) j).trans (gathered_p d L tp ip flp 1 128 rfl _ _ _ hp1 j))
  have vp2 := block_p d L tp ip 2 fp (tile_run.sl.dma0_4 d L tp ip flp fr hp2)
    (fun j => (congrFun (read_writes_whole _ _ _ _) j).trans (gathered_p d L tp ip flp 2 256 rfl _ _ _ hp2 j))
  have vp3 := block_p d L tp ip 3 fp (tile_run.sl.dma0_5 d L tp ip flp fr hp3)
    (fun j => (congrFun (read_writes_whole _ _ _ _) j).trans (gathered_p d L tp ip flp 3 384 rfl _ _ _ hp3 j))
  have vn0 := block_n d L tn iN 0 fn (tile_run.sl.dma0_6 d L tn iN fln fr hn0)
    (fun j => (congrFun (read_writes_whole _ _ _ _) j).trans (gathered_n d L tn iN fln 0 0 rfl _ _ _ hn0 j))
  have vn1 := block_n d L tn iN 1 fn (tile_run.sl.dma0_7 d L tn iN fln fr hn1)
    (fun j => (congrFun (read_writes_whole _ _ _ _) j).trans (gathered_n d L tn iN fln 1 128 rfl _ _ _ hn1 j))
  have vn2 := block_n d L tn iN 2 fn (tile_run.sl.dma0_8 d L tn iN fln fr hn2)
    (fun j => (congrFun (read_writes_whole _ _ _ _) j).trans (gathered_n d L tn iN fln 2 256 rfl _ _ _ hn2 j))
  have vn3 := block_n d L tn iN 3 fn (tile_run.sl.dma0_9 d L tp tn ip iN flp fln fr hp0 hn3)
    (fun j => (congrFun (read_writes_whole _ _ _ _) j).trans (gathered_n d L tn iN fln 3 384 rfl _ _ _ hn3 j))
  isplitl [Hip]; · iexact Hip
  isplitl [Hin]; · iexact Hin
  isplitl [Htp0 Htp1 Htp2 Htp3]
  · isplitl [Htp0]; · iexact Htp0
    isplitl [Htp1]; · iexact Htp1
    isplitl [Htp2]; · iexact Htp2
    iexact Htp3
  isplitl [Htn0 Htn4 Htn5 Htn6]
  · isplitl [Htn0]; · iexact Htn0
    isplitl [Htn4]; · iexact Htn4
    isplitl [Htn5]; · iexact Htn5
    iexact Htn6
  isplitl [Hop0 Hop1 Hop2 Hop3]
  · isplitl [Hop0]; · iapply (Entails.of_eq vp0); iexact Hop0
    isplitl [Hop1]; · iapply (Entails.of_eq vp1); iexact Hop1
    isplitl [Hop2]; · iapply (Entails.of_eq vp2); iexact Hop2
    iapply (Entails.of_eq vp3); iexact Hop3
  isplitl [Hon0 Hon1 Hon2 Hon3]
  · isplitl [Hon0]; · iapply (Entails.of_eq vn0); iexact Hon0
    isplitl [Hon1]; · iapply (Entails.of_eq vn1); iexact Hon1
    isplitl [Hon2]; · iapply (Entails.of_eq vn2); iexact Hon2
    iapply (Entails.of_eq vn3); iexact Hon3
  isplitl [Hlp]; · iexists _; iexact Hlp
  isplitl [Hln]; · iexists _; iexact Hln
  isplitl [Hr0 Hr1 Hr2 Hr3 Hr4 Hr5 Hr6]
  · isplitl [Hr0]; · iexists _; iexact Hr0
    isplitl [Hr1]; · iexists _; iexact Hr1
    isplitl [Hr2]; · iexists _; iexact Hr2
    isplitl [Hr3]; · iexists _; iexact Hr3
    isplitl [Hr4]; · iexists _; iexact Hr4
    isplitl [Hr5]; · iexists _; iexact Hr5
    iexists _; iexact Hr6
  isplitl [Hs0 Hs1 Hs2 Hs3 Hs4 Hs5 Hs6 Hs7 Hs8 Hs9 Hs10 Hs11 Hs12 Hs13 Hs14 Hs15]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  iexists _; isplitr
  swap; · iexact HO
  ipureintro; intro p hp
  simp only [Finset.mem_insert] at hp
  rcases hp with h | h | h | h | h | h | h | h | h | h | h | h | h | h | h | h | h | h | h <;> first | exact .inl h | exact .inr (h ▸ rfl)

end Cert.Proof.Gather
-- ==== Proof.Task.lean ====
/-
  The gather call's contract: what each SparseCore and each task takes and gives back, the task's obligation met by its
  run, and a SparseCore's operands dealt to its sixteen tasks.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A subcore's own semaphores and scratch -/

section Own

/-- The members of `s` that a one-to-one function names, and the rest. -/
theorem bigSep_named {I J : Type} [DecidableEq I] [Fintype J] [DecidableEq J] {s : Finset I} {f : J → I} (hf : Function.Injective f)
    (hs : ∀ j, f j ∈ s) {Φ : I → sProp 𝕄} :
    bigSep s Φ = iprop((bigSep Finset.univ fun j => Φ (f j)) ∗ bigSep (s \ Finset.univ.image f) Φ) := by
  rw [SparseCore.bigSep_sdiff_split' (t := Finset.univ.image f) (Finset.image_subset_iff.mpr fun j _ => hs j),
    SparseCore.bigSep_image_of_injOn hf.injOn]

variable (d : Dev nD) (L : grid0.Coords)

/-- The `k`-th transfer semaphore of a subcore, of the sixteen the kernel uses. -/
abbrev semK (k : Fin 16) : GSem nD τ sig := (tV d L, .dma ⟨k.val, k.isLt.trans (by decide)⟩)

theorem semK_mem (k : Fin 16) : semK d L k ∈ ownCells (tV d L) :=
  mem_ownCells.mpr ⟨rfl, (by decide : ∀ k : Fin 16, (SemLoc.dma ⟨k.val, k.isLt.trans (by decide)⟩ : SemLoc sig).isScoped .scVector = true) k⟩

/-- A subcore's semaphores at zero are the kernel's sixteen and the others. -/
theorem ownSems0_V :
    (ownSems0 (tV d L) : sProp 𝕄)
      = iprop((bigSep Finset.univ fun k : Fin 16 => semVal (semK d L k) 0)
          ∗ bigSep (ownCells (tV d L) \ Finset.univ.image (semK d L)) fun g => semVal g 0) := by
  unfold SparseCore.Cfg.ownSems0
  exact bigSep_named (f := semK d L) (fun a b h => Fin.ext (by simpa using h)) (semK_mem d L)

/-- Sixteen, listed. -/
theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
/-- Seven, listed. -/
theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- Four, listed. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Three, listed. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- A kernel's scratch buffer, held at some contents. -/
abbrev scrPts (b : Ref sig .scVector) : sProp 𝕄 := iprop(∃ f, (tV d L).loc b ↦{fullShare} f)

/-- The three scratch buffers of the kernel. -/
def scr : Fin 3 → Ref sig .scVector := ![cc0_scratch0, cc0_scratch1, cc0_scratch2]

/-- A subcore's buffers are the kernel's three scratch buffers and the others. -/
theorem ownBufs_V :
    (ownBufs (tV d L) : sProp 𝕄)
      = iprop((scrPts (F := F) d L cc0_scratch0 ∗ scrPts (F := F) d L cc0_scratch1 ∗ scrPts (F := F) d L cc0_scratch2)
          ∗ bigSep (ownRefs (τ := τ) (.scVector (cV L) (jV L)) \ Finset.univ.image fun k : Fin 3 => (Proc.scVector (cV L) (jV L)).devRef (scr k))
              fun b => iprop(∃ f, ((d, b) : Loc nD τ sig) ↦{fullShare} f)) := by
  unfold SparseCore.Cfg.ownBufs
  refine Eq.trans ?_ (congrArg (fun A : sProp 𝕄 => iprop(A ∗ _)) (bigSep_three fun k => scrPts (F := F) d L (scr k)))
  exact bigSep_named (f := fun k : Fin 3 => (Proc.scVector (cV L) (jV L)).devRef (scr k))
    (fun a b h => (by decide : Function.Injective scr) (Proc.devRef_injective _ h))
    (fun k => SparseCore.Cfg.mem_ownRefs_of_owner (p := Proc.scVector (cV L) (jV L)) (by fin_cases k <;> rfl))

/-! ## The scratch's seven slots -/

theorem sdiv : 7 ∣ S7x128x128.size 0 := ⟨1, rfl⟩

theorem slot_inb (k : Fin 7) : ∀ a, (![k.val, 0, 0] : Fin 3 → ℕ) a + S1x128x128.size a ≤ S7x128x128.size a := by
  intro a
  match a with
  | 0 => exact k.isLt
  | 1 => exact le_rfl
  | 2 => exact le_rfl

/-- The elements of slot `k`. -/
abbrev slotSet (k : Fin 7) : Finset S7x128x128.Idx := (slot k.val (slot_inb k)).view.set

/-- They are layer `k` of the scratch. -/
theorem slot_set (k : Fin 7) : slotSet k = (Rect.part (s := S7x128x128) (a₀ := 0) sdiv k).set := by
  show ((rV.view.slice (Rect.unit (s := S7x128x128) ![k.val, 0, 0] S1x128x128.size (slot_inb k))).reshape S128x128 squeezes_S1x128x128_S128x128.numel_eq).set = _
  rw [View.set_reshape]
  refine (View.set_slice_whole _ _).trans (congrArg (fun R : Rect S7x128x128 => R.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem slots_disjoint : ∀ i ∈ (Finset.univ : Finset (Fin 7)), ∀ j ∈ (Finset.univ : Finset (Fin 7)), i ≠ j →
    Disjoint (slotSet i) (slotSet j) :=
  fun i _ j _ h => by rw [slot_set, slot_set]; exact Rect.part_disjoint sdiv h
theorem slots_cover : (Finset.univ : Finset (Fin 7)).biUnion slotSet = Finset.univ :=
  (Finset.biUnion_congr rfl fun i _ => slot_set i).trans (Rect.biUnion_part sdiv)

/-- The scratch is its seven slots. -/
theorem slots_split (f : Buf (Elt F) ((tV d L).loc cc0_scratch2)) :
    ((tV d L).loc cc0_scratch2 ↦{fullShare} f : sProp 𝕄)
      = bigSep Finset.univ fun k : Fin 7 => (tV d L).loc cc0_scratch2 ↦[slotSet k]{fullShare} f := by
  rw [← pointsTo_biUnion Finset.univ (ℓ := (tV d L).loc cc0_scratch2) slotSet slots_disjoint, slots_cover]
  try rfl

/-- Seven slots, each at some contents, are the scratch at some contents. -/
theorem slots_join [∀ e, Nonempty (Elt F e)] :
    (bigSep Finset.univ fun k : Fin 7 => slotPts (F := F) d L k.val (slot_inb k)) ⊢ (scrPts (F := F) d L cc0_scratch2 : sProp 𝕄) := by
  refine (bigSep_exists_pi Finset.univ (fun (k : Fin 7) (f : Buf (Elt F) ((tV d L).loc cc0_scratch2)) =>
    ((tV d L).loc cc0_scratch2 ↦[slotSet k]{fullShare} f : sProp 𝕄))).trans ?_
  iintro ⟨%fs, H⟩
  have : Nonempty (Buf (Elt F) ((tV d L).loc cc0_scratch2)) := ⟨fs 0⟩
  ihave H' := (pointsTo_biUnion_join (ℓ := (tV d L).loc cc0_scratch2) (q := fullShare) (Val := Elt F) Finset.univ
    slotSet fs (fs 0) slots_disjoint) $$ H
  icases H' with ⟨%g, -, Hg⟩
  rw [slots_cover]
  iexists g; iexact Hg

end Own

/-! ## What the handshakes carry -/

section Contract

variable (m : (ℓ : Loc nD τ sig) → Buf (Elt F) ℓ)

/-- The pairs of row numbers. -/
abbrev iiLoc (d : Dev nD) : Loc nD τ sig := (SparseCore.T d).loc main_arg0
/-- The first column of the row numbers, of the launch memory. -/
def ipOf (d : Dev nD) : Buf (Elt F) (ipLoc d) := fun j => m (iiLoc d) (ix2 (j 0) (0 : Fin 2))
/-- The second column. -/
def inOf (d : Dev nD) : Buf (Elt F) (inLoc d) := fun j => m (iiLoc d) (ix2 (j 0) (1 : Fin 2))

/-- Every row number names a row: what the proof asks of the launch memory. -/
def PreOK : Prop := ∀ (d : Dev nD) (j : S16384x2.Idx), (m (iiLoc d) j : BitVec 32).toNat < 100000

/-- What every task reads, at a share: both tables and both columns of row numbers. -/
def reads (d : Dev nD) (q : PosShare TreeShare) : sProp 𝕄 :=
  iprop((tpLoc d ↦{q} m (tpLoc d)) ∗ (tnLoc d ↦{q} m (tnLoc d)) ∗ (ipLoc d ↦{q} ipOf m d) ∗ (inLoc d ↦{q} inOf m d))

/-- A task's four blocks of the first result and four of the second. -/
def blocks (d : Dev nD) (f : Buf (Elt F) (opLoc d)) (g : Buf (Elt F) (onLoc d)) (L : grid0.Coords) : sProp 𝕄 :=
  iprop((bigSep Finset.univ fun r : Fin 4 => opLoc d ↦[oSet L r]{fullShare} f) ∗ bigSep Finset.univ fun r : Fin 4 => onLoc d ↦[oSet L r]{fullShare} g)

/-- The first result's contents after the call. -/
def opOf (d : Dev nD) : Buf (Elt F) (opLoc d) := gath (m (tpLoc d)) (ipOf m d)
/-- The second result's. -/
def onOf (d : Dev nD) : Buf (Elt F) (onLoc d) := gath (m (tnLoc d)) (inOf m d)

/-- The coordinates of a task. -/
def coordsV (c : Fin (grid0.bound 0)) (s : Fin (grid0.bound 1)) : grid0.Coords :=
  fun | 0 => c | 1 => s | ⟨_ + 2, h⟩ => absurd h (Nat.not_lt.2 (Nat.le_add_left _ _))

/-- A SparseCore takes a share of what the tasks read and all its tasks' blocks, and brings them back with the gathered
    rows; a task likewise. -/
def P : (K (F := F)).Pay (nD := nD) (Val := Elt F) (Name := ℕ) (U := UU) where
  st := fun q d c => match q with
    | 0 => iprop(reads m d (Transfers.shareTok fullShare 2 c) ∗ bigSep Finset.univ fun i : Fin 16 => blocks d (m (opLoc d)) (m (onLoc d)) (coordsV c i))
  dn := fun q d c => match q with
    | 0 => iprop(reads m d (Transfers.shareTok fullShare 2 c) ∗ bigSep Finset.univ fun i : Fin 16 => blocks d (opOf m d) (onOf m d) (coordsV c i))
  go := fun q d c i => match q with
    | 0 => iprop(reads m d (qV (coordsV c i)) ∗ blocks d (m (opLoc d)) (m (onLoc d)) (coordsV c i))
  td := fun q d c i => match q with
    | 0 => iprop(reads m d (qV (coordsV c i)) ∗ blocks d (opOf m d) (onOf m d) (coordsV c i))
  x := fun _ _ => iprop(emp)

instance reads_storable (d : Dev nD) (q : PosShare TreeShare) : BI.Storable (upEmb : UEmb _ 𝕄) (reads m d q) := by
  unfold reads; infer_instance
instance blocks_storable (d : Dev nD) (f g) (L : grid0.Coords) : BI.Storable (upEmb : UEmb _ 𝕄) (blocks (F := F) d f g L) := by
  unfold blocks; infer_instance

instance coreBlocks_storable (d : Dev nD) (f g) (c : Fin 2) :
    BI.Storable (upEmb : UEmb _ 𝕄) (bigSep Finset.univ fun i : Fin 16 => blocks (F := F) d f g (coordsV c i)) :=
  have h : ∀ i : Fin 16, BI.Storable (upEmb : UEmb _ 𝕄) (blocks (F := F) d f g (coordsV c i)) := fun i => blocks_storable d f g (coordsV c i)
  BI.Storable.bigSep _ _ _

instance P_storable : (P m).IsStorable where
  st q d c := match q with
    | 0 => (inferInstance : BI.Storable (upEmb : UEmb _ 𝕄)
      iprop(reads m d (Transfers.shareTok fullShare 2 c) ∗ bigSep Finset.univ fun i : Fin 16 => blocks d (m (opLoc d)) (m (onLoc d)) (coordsV c i)))
  dn q d c := match q with
    | 0 => (inferInstance : BI.Storable (upEmb : UEmb _ 𝕄)
      iprop(reads m d (Transfers.shareTok fullShare 2 c) ∗ bigSep Finset.univ fun i : Fin 16 => blocks d (opOf m d) (onOf m d) (coordsV c i)))
  go q d c i := match q with
    | 0 => (inferInstance : BI.Storable (upEmb : UEmb _ 𝕄) iprop(reads m d (qV (coordsV c i)) ∗ blocks d (m (opLoc d)) (m (onLoc d)) (coordsV c i)))
  td q d c i := match q with
    | 0 => (inferInstance : BI.Storable (upEmb : UEmb _ 𝕄) iprop(reads m d (qV (coordsV c i)) ∗ blocks d (opOf m d) (onOf m d) (coordsV c i)))

/-- What the tasks read, dealt into `n` shares and a rest. -/
theorem reads_deal (d : Dev nD) (q : PosShare TreeShare) (n : ℕ) :
    (reads m d q : sProp 𝕄) ⊣⊢ iprop(reads m d (Transfers.shareDrop q n) ∗ bigSep Finset.univ fun i : Fin n => reads m d (Transfers.shareTok q n i)) := by
  unfold reads
  have h := fun (ℓ : Loc nD τ sig) f => Transfers.pointsTo_toks (Val := Elt F) (Name := ℕ) (U := UU) (Lvl := ℕ) (Ix := HIx 1) (ℓ := ℓ) (S := Finset.univ) (f := f) q n
  rw [bigSep_sep', bigSep_sep', bigSep_sep']
  constructor
  · iintro ⟨H1, H2, H3, H4⟩
    ihave H1 := (h _ _).1 $$ H1
    ihave H2 := (h _ _).1 $$ H2
    ihave H3 := (h _ _).1 $$ H3
    ihave H4 := (h _ _).1 $$ H4
    icases H1 with ⟨H1, K1⟩; icases H2 with ⟨H2, K2⟩; icases H3 with ⟨H3, K3⟩; icases H4 with ⟨H4, K4⟩
    isplitl [H1 H2 H3 H4]
    · isplitl [H1]; · iexact H1
      isplitl [H2]; · iexact H2
      isplitl [H3]; · iexact H3
      iexact H4
    isplitl [K1]; · iexact K1
    isplitl [K2]; · iexact K2
    isplitl [K3]; · iexact K3
    iexact K4
  · iintro ⟨⟨H1, H2, H3, H4⟩, K1, K2, K3, K4⟩
    isplitl [H1 K1]; · iapply (h _ _).2; isplitl [H1] <;> iassumption
    isplitl [H2 K2]; · iapply (h _ _).2; isplitl [H2] <;> iassumption
    isplitl [H3 K3]; · iapply (h _ _).2; isplitl [H3] <;> iassumption
    iapply (h _ _).2; isplitl [H4] <;> iassumption

/-- A SparseCore's operands are dealt to its sixteen tasks, and their results gathered. -/
theorem vecSplit : (K (F := F)).VecSplit' (P m) 0 := by
  intro d c
  show iprop(reads m d (Transfers.shareTok fullShare 2 c) ∗ bigSep Finset.univ fun i : Fin 16 => blocks d (m (opLoc d)) (m (onLoc d)) (coordsV c i))
    ⊢ |={Set.univ}=> iprop(
      (bigSep Finset.univ fun i : Fin 16 => iprop(reads m d (Transfers.shareTok (Transfers.shareTok fullShare 2 c) 16 i) ∗ blocks d (m (opLoc d)) (m (onLoc d)) (coordsV c i)))
      ∗ ((bigSep Finset.univ fun i : Fin 16 => iprop(reads m d (Transfers.shareTok (Transfers.shareTok fullShare 2 c) 16 i) ∗ blocks d (opOf m d) (onOf m d) (coordsV c i)))
          -∗ iprop(reads m d (Transfers.shareTok fullShare 2 c) ∗ bigSep Finset.univ fun i : Fin 16 => blocks d (opOf m d) (onOf m d) (coordsV c i))))
  rw [bigSep_sep', bigSep_sep']
  iintro ⟨Hr, Hb⟩
  ihave Hr := (reads_deal m d _ 16).1 $$ Hr
  icases Hr with ⟨Hd, Hr⟩
  imodintro
  isplitl [Hr Hb]; · isplitl [Hr] <;> iassumption
  iintro ⟨Hr, Hb⟩
  isplitl [Hd Hr]
  · iapply (reads_deal m d _ 16).2; isplitl [Hd] <;> iassumption
  iexact Hb

end Contract

end Cert.Proof.Gather
-- ==== Proof.Host.lean ====
/-
  @main's host operations: the two columns of row numbers it slices out of the first argument, and the two biases it
  reshapes, as what the arrays hold after them.
-/
module

public import proofs.«01_k».proof.Proof.Call
public import proofs.«01_k».proof.Proof.Task
public import Idealize.ShloMosaic.Lib.StableHlo.Run
public import Idealize.ShloMosaic.Lib.Pointwise

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The array of the row numbers, -/
abbrev a0' : DevRef τ sig := Proc.devRef .tc (main_arg0 : Ref sig .tc)
/-- its first column as a matrix, -/
abbrev v0' : DevRef τ sig := Proc.devRef .tc (main_v0 : Ref sig .tc)
/-- as a vector, -/
abbrev v1' : DevRef τ sig := Proc.devRef .tc (main_v1 : Ref sig .tc)
/-- its second column as a matrix, -/
abbrev v2' : DevRef τ sig := Proc.devRef .tc (main_v2 : Ref sig .tc)
/-- as a vector; -/
abbrev v3' : DevRef τ sig := Proc.devRef .tc (main_v3 : Ref sig .tc)
/-- the first bias, -/
abbrev a4' : DevRef τ sig := Proc.devRef .tc (main_arg4 : Ref sig .tc)
/-- as a row, -/
abbrev v5' : DevRef τ sig := Proc.devRef .tc (main_v5 : Ref sig .tc)
/-- the second bias, -/
abbrev a6' : DevRef τ sig := Proc.devRef .tc (main_arg6 : Ref sig .tc)
/-- as a matrix. -/
abbrev v6' : DevRef τ sig := Proc.devRef .tc (main_v6 : Ref sig .tc)

/-- The slice of the first column, -/
abbrev opS0 : HloOp τ sig (Elt F) := StableHlo.unary main_arg0 main_v0 ((extractStridedSlice S16384x1 ![0, 0] · slices_S16384x2_S16384x1_0_0) : (⟨S16384x2, .i32⟩ : BufTy).Contents (Elt F) → (⟨S16384x1, .i32⟩ : BufTy).Contents (Elt F))
/-- its reshape, -/
abbrev opR0 : HloOp τ sig (Elt F) := StableHlo.reshape main_v0 main_v1 (rfl : (.i32 : EltTy) = .i32) shapeCasts_S16384x1_S16384
/-- the slice of the second column, -/
abbrev opS1 : HloOp τ sig (Elt F) := StableHlo.unary main_arg0 main_v2 ((extractStridedSlice S16384x1 ![0, 1] · slices_S16384x2_S16384x1_0_1) : (⟨S16384x2, .i32⟩ : BufTy).Contents (Elt F) → (⟨S16384x1, .i32⟩ : BufTy).Contents (Elt F))
/-- its reshape; -/
abbrev opR1 : HloOp τ sig (Elt F) := StableHlo.reshape main_v2 main_v3 (rfl : (.i32 : EltTy) = .i32) shapeCasts_S16384x1_S16384
/-- the first bias's reshape, -/
abbrev opB1 : HloOp τ sig (Elt F) := StableHlo.reshape main_arg4 main_v5 (rfl : (.f32 : EltTy) = .f32) shapeCasts_S64_S1x64
/-- the second's. -/
abbrev opB2 : HloOp τ sig (Elt F) := StableHlo.reshape main_arg6 main_v6 (rfl : (.f32 : EltTy) = .f32) shapeCasts_S1_S1x1

/-- The arrays the slices and their reshapes touch. -/
abbrev SA : Finset (DevRef τ sig) := {a0', v0', v1', v2', v3'}
/-- The arrays the biases' reshapes touch. -/
abbrev SB : Finset (DevRef τ sig) := {a4', v5', a6', v6'}

/-- The launch memory as a valuation. -/
def V0 (d : Dev nD) : Valuation τ sig (Elt F) := fun b => m (d, b)
/-- The valuation after the slices and their reshapes. -/
abbrev VA (d : Dev nD) : Valuation τ sig (Elt F) := opR1.result (opS1.result (opR0.result (opS0.result (V0 m d))))
/-- The valuation after the biases' reshapes. -/
abbrev VB (d : Dev nD) : Valuation τ sig (Elt F) := opB2.result (opB1.result (V0 m d))

/-- The first bias as a row. -/
def b1Of (d : Dev nD) : S1x64.Idx → Elt F .f32 := fun j => m (a4Loc d) (ix1 (j 1))
/-- The second bias as a matrix. -/
def b2Of (d : Dev nD) : S1x1.Idx → Elt F .f32 := fun j => m (a6Loc d) (ix1 (j 1))

theorem held_SA (d : Dev nD) (W : Valuation τ sig (Elt F)) :
    (held (SparseCore.T d) SA W : sProp 𝕄)
      = iprop((a0Loc d ↦{fullShare} W a0') ∗ ((SparseCore.T d).loc main_v0 ↦{fullShare} W v0') ∗ (ipLoc d ↦{fullShare} W v1')
          ∗ ((SparseCore.T d).loc main_v2 ↦{fullShare} W v2') ∗ inLoc d ↦{fullShare} W v3') := by
  unfold held SA
  rw [SparseCore.bigSep_insert' (by decide), SparseCore.bigSep_insert' (by decide), SparseCore.bigSep_insert' (by decide),
    SparseCore.bigSep_insert' (by decide), bigSep_singleton]

theorem held_SB (d : Dev nD) (W : Valuation τ sig (Elt F)) :
    (held (SparseCore.T d) SB W : sProp 𝕄)
      = iprop((a4Loc d ↦{fullShare} W a4') ∗ (v5Loc d ↦{fullShare} W v5') ∗ (a6Loc d ↦{fullShare} W a6') ∗ v6Loc d ↦{fullShare} W v6') := by
  unfold held SB
  rw [SparseCore.bigSep_insert' (by decide), SparseCore.bigSep_insert' (by decide), SparseCore.bigSep_insert' (by decide), bigSep_singleton]

/-- The row numbers stay. -/
theorem VA_a0 (d : Dev nD) : VA m d a0' = m (a0Loc d) := by
  unfold VA
  rw [(opR1 (F := F)).result_of_not_mem _ (show a0' ∉ ({v3'} : Finset (DevRef τ sig)) by decide),
    (opS1 (F := F)).result_of_not_mem _ (show a0' ∉ ({v2'} : Finset (DevRef τ sig)) by decide),
    (opR0 (F := F)).result_of_not_mem _ (show a0' ∉ ({v1'} : Finset (DevRef τ sig)) by decide),
    (opS0 (F := F)).result_of_not_mem _ (show a0' ∉ ({v0'} : Finset (DevRef τ sig)) by decide)]
  rfl

/-- The first column, sliced and reshaped, is the first column. -/
theorem col0 (x : (⟨S16384x2, .i32⟩ : BufTy).Contents (Elt F)) (j : S16384.Idx) :
    shapeCast S16384 (extractStridedSlice S16384x1 ![0, 0] x slices_S16384x2_S16384x1_0_0) shapeCasts_S16384x1_S16384 j
      = x (ix2 (j 0) (0 : Fin 2)) := by
  pointwise

/-- The second column, sliced and reshaped, is the second column. -/
theorem col1 (x : (⟨S16384x2, .i32⟩ : BufTy).Contents (Elt F)) (j : S16384.Idx) :
    shapeCast S16384 (extractStridedSlice S16384x1 ![0, 1] x slices_S16384x2_S16384x1_0_1) shapeCasts_S16384x1_S16384 j
      = x (ix2 (j 0) (1 : Fin 2)) := by
  pointwise

theorem VA_v1 (d : Dev nD) : VA m d v1' = ipOf m d := by
  unfold VA
  rw [(opR1 (F := F)).result_of_not_mem _ (show v1' ∉ ({v3'} : Finset (DevRef τ sig)) by decide),
    (opS1 (F := F)).result_of_not_mem _ (show v1' ∉ ({v2'} : Finset (DevRef τ sig)) by decide)]
  unfold opR0 opS0
  rw [StableHlo.reshape_result, StableHlo.unary_result]
  exact funext fun j => col0 (V0 m d a0') j

theorem VA_v3 (d : Dev nD) : VA m d v3' = inOf m d := by
  unfold VA
  unfold opR1 opS1
  rw [StableHlo.reshape_result, StableHlo.unary_result,
    (opR0 (F := F)).result_of_not_mem _ (show a0' ∉ ({v1'} : Finset (DevRef τ sig)) by decide),
    (opS0 (F := F)).result_of_not_mem _ (show a0' ∉ ({v0'} : Finset (DevRef τ sig)) by decide)]
  exact funext fun j => col1 (V0 m d a0') j

/-- The arrays after the slices and their reshapes. -/
theorem held_VA (d : Dev nD) :
    (held (SparseCore.T d) SA (VA m d) : sProp 𝕄)
      = iprop((a0Loc d ↦{fullShare} m (a0Loc d)) ∗ ((SparseCore.T d).loc main_v0 ↦{fullShare} VA m d v0') ∗ (ipLoc d ↦{fullShare} ipOf m d)
          ∗ ((SparseCore.T d).loc main_v2 ↦{fullShare} VA m d v2') ∗ inLoc d ↦{fullShare} inOf m d) := by
  rw [held_SA, VA_a0, VA_v1, VA_v3]

theorem row1 (x : (⟨S64, .f32⟩ : BufTy).Contents (Elt F)) (j : S1x64.Idx) :
    shapeCast S1x64 x shapeCasts_S64_S1x64 j = x (ix1 (j 1)) := by
  pointwise
theorem mat1 (x : (⟨S1, .f32⟩ : BufTy).Contents (Elt F)) (j : S1x1.Idx) :
    shapeCast S1x1 x shapeCasts_S1_S1x1 j = x (ix1 (j 1)) := by
  idx_vars j
  obtain rfl : j1 = 0 := Subsingleton.elim _ _
  pointwise

/-- The arrays after the biases' reshapes. -/
theorem held_VB (d : Dev nD) :
    (held (SparseCore.T d) SB (VB m d) : sProp 𝕄)
      = iprop((a4Loc d ↦{fullShare} m (a4Loc d)) ∗ (v5Loc d ↦{fullShare} b1Of m d) ∗ (a6Loc d ↦{fullShare} m (a6Loc d)) ∗ v6Loc d ↦{fullShare} b2Of m d) := by
  have h4 : VB m d a4' = m (a4Loc d) := by
    unfold VB
    rw [(opB2 (F := F)).result_of_not_mem _ (show a4' ∉ ({v6'} : Finset (DevRef τ sig)) by decide),
      (opB1 (F := F)).result_of_not_mem _ (show a4' ∉ ({v5'} : Finset (DevRef τ sig)) by decide)]
    rfl
  have h6 : VB m d a6' = m (a6Loc d) := by
    unfold VB
    rw [(opB2 (F := F)).result_of_not_mem _ (show a6' ∉ ({v6'} : Finset (DevRef τ sig)) by decide),
      (opB1 (F := F)).result_of_not_mem _ (show a6' ∉ ({v5'} : Finset (DevRef τ sig)) by decide)]
    rfl
  have h5 : VB m d v5' = b1Of m d := by
    unfold VB
    rw [(opB2 (F := F)).result_of_not_mem _ (show v5' ∉ ({v6'} : Finset (DevRef τ sig)) by decide)]
    unfold opB1
    rw [StableHlo.reshape_result]
    exact funext fun j => row1 (V0 m d a4') j
  have h7 : VB m d v6' = b2Of m d := by
    unfold VB
    unfold opB2
    rw [StableHlo.reshape_result, (opB1 (F := F)).result_of_not_mem _ (show a6' ∉ ({v5'} : Finset (DevRef τ sig)) by decide)]
    exact funext fun j => mat1 (V0 m d a6') j
  rw [held_SB, h4, h5, h6, h7]

theorem hS0 : (opS0 (F := F)).bufs ⊆ SA := show ({a0', v0'} : Finset (DevRef τ sig)) ⊆ SA by decide
theorem hR0 : (opR0 (F := F)).bufs ⊆ SA := show ({v0', v1'} : Finset (DevRef τ sig)) ⊆ SA by decide
theorem hS1 : (opS1 (F := F)).bufs ⊆ SA := show ({a0', v2'} : Finset (DevRef τ sig)) ⊆ SA by decide
theorem hR1 : (opR1 (F := F)).bufs ⊆ SA := show ({v2', v3'} : Finset (DevRef τ sig)) ⊆ SA by decide
theorem hB1 : (opB1 (F := F)).bufs ⊆ SB := show ({a4', v5'} : Finset (DevRef τ sig)) ⊆ SB by decide
theorem hB2 : (opB2 (F := F)).bufs ⊆ SB := show ({a6', v6'} : Finset (DevRef τ sig)) ⊆ SB by decide

end Cert.Proof.Gather
-- ==== Proof.Deal.lean ====
/-
  The call's operands dealt to the two SparseCores and its results gathered: the blocks of 128 rows the 32 tasks write are
  disjoint and cover each result, and each SparseCore reads the tables and the row numbers at a share.
-/
module

public import proofs.«01_k».proof.Proof.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks of the results -/

/-- The block a SparseCore's task writes at one of its four rounds. -/
def oB (t : Fin 2 × Fin 16 × Fin 4) : Finset S16384x128.Idx := oSet (coordsV t.1 t.2.1) t.2.2

/-- A block is 128 consecutive rows. -/
theorem mem_oB (t : Fin 2 × Fin 16 × Fin 4) (x : S16384x128.Idx) :
    x ∈ oB t ↔ 1024 * t.2.1.val + 512 * t.1.val + 128 * t.2.2.val ≤ (x 0).val ∧ (x 0).val < 1024 * t.2.1.val + 512 * t.1.val + 128 * t.2.2.val + 128 := by
  unfold oB oSet
  rw [Rect.mem_set_unit, k0_off2_eq]
  constructor
  · intro h
    have h0 := h 0
    simp [coordsV] at h0
    exact ⟨by omega, by omega⟩
  · intro h a
    match a with
    | ⟨0, _⟩ => simp [coordsV]; omega
    | ⟨1, _⟩ =>
      have : (x 1).val < 128 := (x 1).isLt
      simp
      omega

/-- Different tasks and rounds write different rows. -/
theorem oB_disjoint : ∀ t ∈ (Finset.univ : Finset (Fin 2 × Fin 16 × Fin 4)), ∀ t' ∈ (Finset.univ : Finset (Fin 2 × Fin 16 × Fin 4)), t ≠ t' → Disjoint (oB t) (oB t') := by
  rintro ⟨c, i, r⟩ - ⟨c', i', r'⟩ - hne
  rw [Finset.disjoint_left]
  intro x hx hx'
  rw [mem_oB] at hx hx'
  dsimp only at hx hx'
  have := c.isLt; have := c'.isLt; have := i.isLt; have := i'.isLt; have := r.isLt; have := r'.isLt
  refine hne (Prod.ext (Fin.ext ?_) (Prod.ext (Fin.ext ?_) (Fin.ext ?_))) <;> dsimp only <;> omega

/-- Every row is written. -/
theorem oB_cover : (Finset.univ : Finset (Fin 2 × Fin 16 × Fin 4)).biUnion oB = Finset.univ := by
  refine Finset.eq_univ_iff_forall.mpr fun x => Finset.mem_biUnion.mpr ?_
  have hx : (x 0).val < 16384 := (x 0).isLt
  refine ⟨(⟨(x 0).val / 512 % 2, by omega⟩, ⟨(x 0).val / 1024, by omega⟩, ⟨(x 0).val / 128 % 4, by omega⟩), Finset.mem_univ _, ?_⟩
  rw [mem_oB]
  dsimp only
  omega

/-- The first result held whole is its blocks, by SparseCore, task and round. -/
theorem op_blocks (d : Dev nD) (f : Buf (Elt F) (opLoc d)) :
    (opLoc d ↦{fullShare} f : sProp 𝕄)
      = bigSep Finset.univ fun c : Fin 2 => bigSep Finset.univ fun i : Fin 16 => bigSep Finset.univ fun r : Fin 4 => opLoc d ↦[oSet (coordsV c i) r]{fullShare} f := by
  have h := pointsTo_biUnion (Ix := HIx 1) (Name := ℕ) (U := UU) (Lvl := ℕ) (ℓ := opLoc d) (q := fullShare) (f := f) Finset.univ oB oB_disjoint
  rw [oB_cover, bigSep_univ_prod] at h
  refine h.trans (bigSep_congr fun c _ => ?_)
  rw [bigSep_univ_prod]
  rfl

/-- The second likewise. -/
theorem on_blocks (d : Dev nD) (f : Buf (Elt F) (onLoc d)) :
    (onLoc d ↦{fullShare} f : sProp 𝕄)
      = bigSep Finset.univ fun c : Fin 2 => bigSep Finset.univ fun i : Fin 16 => bigSep Finset.univ fun r : Fin 4 => onLoc d ↦[oSet (coordsV c i) r]{fullShare} f := by
  have h := pointsTo_biUnion (Ix := HIx 1) (Name := ℕ) (U := UU) (Lvl := ℕ) (ℓ := onLoc d) (q := fullShare) (f := f) Finset.univ oB oB_disjoint
  rw [oB_cover, bigSep_univ_prod] at h
  refine h.trans (bigSep_congr fun c _ => ?_)
  rw [bigSep_univ_prod]
  rfl

/-- Both results held whole are the SparseCores' tasks' blocks. -/
theorem outs_blocks (d : Dev nD) (f : Buf (Elt F) (opLoc d)) (g : Buf (Elt F) (onLoc d)) :
    (iprop((opLoc d ↦{fullShare} f) ∗ (onLoc d ↦{fullShare} g)) : sProp 𝕄)
      = bigSep Finset.univ fun c : Fin 2 => bigSep Finset.univ fun i : Fin 16 => blocks d f g (coordsV c i) := by
  rw [op_blocks, on_blocks]
  unfold blocks
  simp only [bigSep_sep']

variable (m : (ℓ : Loc nD τ sig) → Buf (Elt F) ℓ)

/-- What the call takes, dealt: the operands at two shares and the results' blocks. -/
theorem call_deal (d : Dev nD) :
    (iprop(reads m d fullShare ∗ (opLoc d ↦{fullShare} m (opLoc d)) ∗ (onLoc d ↦{fullShare} m (onLoc d))) : sProp 𝕄)
      ⊢ iprop(reads m d (Transfers.shareDrop fullShare 2) ∗ bigSep Finset.univ fun c : Fin ((K (F := F)).nCore 0) => (P m).st 0 d c) := by
  rw [show (bigSep Finset.univ fun c : Fin ((K (F := F)).nCore 0) => (P m).st 0 d c)
    = (bigSep Finset.univ fun c : Fin 2 => iprop(reads m d (Transfers.shareTok fullShare 2 c)
      ∗ bigSep Finset.univ fun i : Fin 16 => blocks d (m (opLoc d)) (m (onLoc d)) (coordsV c i)) : sProp 𝕄) from rfl, bigSep_sep', outs_blocks]
  iintro ⟨Hr, Hb⟩
  ihave Hr := (reads_deal m d fullShare 2).1 $$ Hr
  icases Hr with ⟨Hd, Hr⟩
  isplitl [Hd]; · iexact Hd
  isplitl [Hr]; · iexact Hr
  iexact Hb

/-- What the call gives, gathered: the operands whole and the results at the gathered rows. -/
theorem call_gather (d : Dev nD) :
    (iprop(reads m d (Transfers.shareDrop fullShare 2) ∗ bigSep Finset.univ fun c : Fin ((K (F := F)).nCore 0) => (P m).dn 0 d c) : sProp 𝕄)
      ⊢ iprop(reads m d fullShare ∗ (opLoc d ↦{fullShare} opOf m d) ∗ (onLoc d ↦{fullShare} onOf m d)) := by
  rw [show (bigSep Finset.univ fun c : Fin ((K (F := F)).nCore 0) => (P m).dn 0 d c)
    = (bigSep Finset.univ fun c : Fin 2 => iprop(reads m d (Transfers.shareTok fullShare 2 c)
      ∗ bigSep Finset.univ fun i : Fin 16 => blocks d (opOf m d) (onOf m d) (coordsV c i)) : sProp 𝕄) from rfl, bigSep_sep', outs_blocks]
  iintro ⟨Hd, Hr, Hb⟩
  isplitl [Hd Hr]
  · iapply (reads_deal m d fullShare 2).2; isplitl [Hd]; · iexact Hd
    iexact Hr
  iexact Hb

end Cert.Proof.Gather
-- ==== Proof.Obligation.lean ====
/-
  The task's obligation: from a task's share of the operands and its subcore's own buffers and semaphores, the kernel runs
  and brings its blocks back at the gathered rows.
-/
module

public import proofs.«01_k».proof.Proof.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [∀ e, Nonempty (Elt F e)] (m : (ℓ : Loc nD τ sig) → Buf (Elt F) ℓ)
variable (d : Dev nD) (L : grid0.Coords)

/-- A table's share dealt to the transfers that read it: seven tokens and a rest. -/
theorem table_deal (ℓ : Loc nD τ sig) (q : PosShare TreeShare) (f : Buf (Elt F) ℓ) :
    (ℓ ↦{q} f : sProp 𝕄) ⊣⊢ iprop((ℓ ↦{Transfers.shareDrop q 7} f) ∗ (ℓ ↦{Transfers.shareTok q 7 0} f) ∗ (ℓ ↦{Transfers.shareTok q 7 1} f)
      ∗ (ℓ ↦{Transfers.shareTok q 7 2} f) ∗ (ℓ ↦{Transfers.shareTok q 7 3} f) ∗ (ℓ ↦{Transfers.shareTok q 7 4} f)
      ∗ (ℓ ↦{Transfers.shareTok q 7 5} f) ∗ (ℓ ↦{Transfers.shareTok q 7 6} f)) := by
  have h := Transfers.pointsTo_toks (Val := Elt F) (Name := ℕ) (U := UU) (Lvl := ℕ) (Ix := HIx 1) (ℓ := ℓ) (S := Finset.univ) (f := f) q 7
  rwa [bigSep_seven] at h

omit [FloatOps F] [∀ e, Nonempty (Elt F e)] in
/-- A block of the first result, as its task addresses it. -/
theorem pts_opK (r : Fin 4) (f : Buf (Elt F) (opLoc d)) :
    (opLoc d ↦[oSet L r]{fullShare} f : sProp 𝕄) = (opK L r).view.loc (tV d L) ↦[(opK L r).view.set]{fullShare} f := by
  rw [show (opK L r).view.set = oSet L r from View.set_slice_whole _ _]
omit [FloatOps F] [∀ e, Nonempty (Elt F e)] in
/-- A block of the second result, as its task addresses it. -/
theorem pts_onK (r : Fin 4) (f : Buf (Elt F) (onLoc d)) :
    (onLoc d ↦[oSet L r]{fullShare} f : sProp 𝕄) = (onK L r).view.loc (tV d L) ↦[(onK L r).view.set]{fullShare} f := by
  rw [show (onK L r).view.set = oSet L r from View.set_slice_whole _ _]

omit [FloatOps F] [∀ e, Nonempty (Elt F e)] in
theorem ip_lt (hpre : PreOK m) (j : S16384.Idx) : (ipOf m d j : BitVec 32).toNat < 100000 := hpre d _
omit [FloatOps F] [∀ e, Nonempty (Elt F e)] in
theorem in_lt (hpre : PreOK m) (j : S16384.Idx) : (inOf m d j : BitVec 32).toNat < 100000 := hpre d _

set_option maxHeartbeats 4000000 in
/-- The task on vector subcore `(L 0, L 1)` of device `d`, from what the handshake hands it and what its subcore owns. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (reads m d (qV L) ∗ blocks d (m (opLoc d)) (m (onLoc d)) L)
        ∗ scopedBufs (tV d L) ∗ scopedSems0 (tV d L) ∗ owes (tV d L) O W)
      ⊢ wp frame (wpE (defs₀ (F := F)) 𝒱₀ (tV d L) none) Set.univ
          (cc0_gather_kernel L tpV (Memref.isWhole_whole _) tnV (Memref.isWhole_whole _) ipV (Memref.isWhole_whole _) inV (Memref.isWhole_whole _)
            opV (Memref.isWhole_whole _) onV (Memref.isWhole_whole _) lpV (Memref.isWhole_whole _) lnV (Memref.isWhole_whole _) rV (Memref.isWhole_whole _)
            cc0_scratch3 cc0_scratch4 cc0_scoped0 cc0_scoped1)
          fun _ => iprop((reads m d (qV L) ∗ blocks d (opOf m d) (onOf m d) L)
            ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L), ownSems0_V, ownBufs_V, bigSep_sixteen]
  unfold reads blocks
  rw [bigSep_four, bigSep_four, bigSep_four, bigSep_four]
  iintro ⟨#Hlv, -, ⟨⟨Htp, Htn, Hip, Hin⟩, ⟨Hop0, Hop1, Hop2, Hop3⟩, ⟨Hon0, Hon1, Hon2, Hon3⟩⟩, ⟨⟨⟨%flp, Hlp⟩, ⟨%fln, Hln⟩, %fr, Hr⟩, Hbufs⟩, ⟨Hs, Hsems⟩, HO⟩
  ihave Hmw := (show levAts (K (F := F)).L (K (F := F)).lev ⊢ Transfers.MayWaits (tV d L) (default : HIx 1) O from
    (K (F := F)).mayWaits_none (thr := tV d L) hO) $$ Hlv
  ihave Htp := (table_deal (tpLoc d) (qV L) _).1 $$ Htp
  icases Htp with ⟨Htpr, Htp0, Htp1, Htp2, Htp3, Htp4, Htp5, Htp6⟩
  ihave Htn := (table_deal (tnLoc d) (qV L) _).1 $$ Htn
  icases Htn with ⟨Htnr, Htn0, Htn1, Htn2, Htn3, Htn4, Htn5, Htn6⟩
  ihave Hr := (Entails.of_eq ((slots_split d L fr).trans (bigSep_seven _))) $$ Hr
  iapply (wp_wand_r frame (wpE (defs₀ (F := F)) 𝒱₀ (tV d L) none) Set.univ)
  isplitl [Hmw Hip Hin Htp0 Htp1 Htp2 Htp3 Htn0 Htn4 Htn5 Htn6 Hop0 Hop1 Hop2 Hop3 Hon0 Hon1 Hon2 Hon3 Hlp Hln Hr Hs HO]
  · iapply (tile_run d L (qV L) (m (tpLoc d)) (m (tnLoc d)) (ipOf m d) (inOf m d) (m (opLoc d)) (m (onLoc d)) flp fln fr (ip_lt m d hpre) (in_lt m d hpre) O W)
    isplitl [Hmw]; · iexact Hmw
    isplitl [Hip]; · iexact Hip
    isplitl [Hin]; · iexact Hin
    isplitl [Htp0 Htp1 Htp2 Htp3]
    · isplitl [Htp0]; · iexact Htp0
      isplitl [Htp1]; · iexact Htp1
      isplitl [Htp2]; · iexact Htp2
      iexact Htp3
    isplitl [Htn0 Htn4 Htn5 Htn6]
    · isplitl [Htn0]; · iexact Htn0
      isplitl [Htn4]; · iexact Htn4
      isplitl [Htn5]; · iexact Htn5
      iexact Htn6
    isplitl [Hop0 Hop1 Hop2 Hop3]
    · isplitl [Hop0]; · iapply (Entails.of_eq (pts_opK d L 0 _)); iexact Hop0
      isplitl [Hop1]; · iapply (Entails.of_eq (pts_opK d L 1 _)); iexact Hop1
      isplitl [Hop2]; · iapply (Entails.of_eq (pts_opK d L 2 _)); iexact Hop2
      iapply (Entails.of_eq (pts_opK d L 3 _)); iexact Hop3
    isplitl [Hon0 Hon1 Hon2 Hon3]
    · isplitl [Hon0]; · iapply (Entails.of_eq (pts_onK d L 0 _)); iexact Hon0
      isplitl [Hon1]; · iapply (Entails.of_eq (pts_onK d L 1 _)); iexact Hon1
      isplitl [Hon2]; · iapply (Entails.of_eq (pts_onK d L 2 _)); iexact Hon2
      iapply (Entails.of_eq (pts_onK d L 3 _)); iexact Hon3
    isplitl [Hlp]; · iexact Hlp
    isplitl [Hln]; · iexact Hln
    isplitl [Hr]; · iexact Hr
    isplitl [Hs]; · iexact Hs
    iexact HO
  iintro %_ ⟨Hip, Hin, ⟨Htp0, Htp1, Htp2, Htp3⟩, ⟨Htn0, Htn4, Htn5, Htn6⟩, Hop, Hon, Hlp, Hln, Hr, Hs, HO⟩
  isplitl [Hip Hin Htpr Htp0 Htp1 Htp2 Htp3 Htp4 Htp5 Htp6 Htnr Htn0 Htn1 Htn2 Htn3 Htn4 Htn5 Htn6 Hop Hon]
  · isplitl [Hip Hin Htpr Htp0 Htp1 Htp2 Htp3 Htp4 Htp5 Htp6 Htnr Htn0 Htn1 Htn2 Htn3 Htn4 Htn5 Htn6]
    · isplitl [Htpr Htp0 Htp1 Htp2 Htp3 Htp4 Htp5 Htp6]
      · iapply (table_deal (tpLoc d) (qV L) _).2
        isplitl [Htpr]; · iexact Htpr
        isplitl [Htp0]; · iexact Htp0
        isplitl [Htp1]; · iexact Htp1
        isplitl [Htp2]; · iexact Htp2
        isplitl [Htp3]; · iexact Htp3
        isplitl [Htp4]; · iexact Htp4
        isplitl [Htp5]; · iexact Htp5
        iexact Htp6
      isplitl [Htnr Htn0 Htn1 Htn2 Htn3 Htn4 Htn5 Htn6]
      · iapply (table_deal (tnLoc d) (qV L) _).2
        isplitl [Htnr]; · iexact Htnr
        isplitl [Htn0]; · iexact Htn0
        isplitl [Htn1]; · iexact Htn1
        isplitl [Htn2]; · iexact Htn2
        isplitl [Htn3]; · iexact Htn3
        isplitl [Htn4]; · iexact Htn4
        isplitl [Htn5]; · iexact Htn5
        iexact Htn6
      isplitl [Hip]; · iexact Hip
      iexact Hin
    isplitl [Hop]; · iexact Hop
    iexact Hon
  isplitl [Hlp Hln Hr Hbufs]
  · isplitl [Hlp Hln Hr]
    · isplitl [Hlp]; · iexact Hlp
      isplitl [Hln]; · iexact Hln
      iapply (slots_join d L)
      iapply (Entails.of_eq (bigSep_seven fun k : Fin 7 => slotPts (F := F) d L k.val (slot_inb k)).symm)
      iexact Hr
    iexact Hbufs
  isplitl [Hs Hsems]
  · isplitl [Hs]; · iexact Hs
    iexact Hsems
  iexact HO

/-! ## The obligation -/

theorem defs₀_vector (c : Fin τ.nSC) (s : Fin τ.nSub) :
    defs₀ (F := F) (.scVector c s) 0 ()
      = SparseCore.onTile hcore0 hsub0 (fun c s => cc0_gather_kernel (coordsV c s)
          tpV (Memref.isWhole_whole _) tnV (Memref.isWhole_whole _) ipV (Memref.isWhole_whole _) inV (Memref.isWhole_whole _)
          opV (Memref.isWhole_whole _) onV (Memref.isWhole_whole _) lpV (Memref.isWhole_whole _) lnV (Memref.isWhole_whole _) rV (Memref.isWhole_whole _)
          cc0_scratch3 cc0_scratch4 cc0_scoped0 cc0_scoped1) ⟨⟩ c s := rfl

omit [FloatOps F] [∀ e, Nonempty (Elt F e)] in
/-- Waits at no index are among those a call may leave. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its contract. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.Gather
-- ==== Proof.Main.lean ====
/-
  The program's run: @main on the TensorCore from its arrays at the launch contents, the launch of every thread, and
  the final memory: the arguments unchanged, the result at what the TensorCore kernel's points leave.
-/
module

public import proofs.«01_k».proof.Proof.Host
public import proofs.«01_k».proof.Proof.Deal
public import proofs.«01_k».proof.Proof.Obligation
public import Idealize.ShloMosaic.Lib.SparseCore.Quiescent

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (Dat Cfg Window BodyObligation cellOf)

set_option maxRecDepth 16384

variable {F : FTy → Type} [FloatOps F]

local notation "𝕄" => MT nD τ sig (HIx 1) (Elt F) ℕ UU ℕ

variable [∀ e, Nonempty (Elt F e)] (m : (ℓ : Loc nD τ sig) → Buf (Elt F) ℓ) (ρ : Dev nD → PrngReg)

/-! ## The ghost state the launch allocates -/

/-- The handshakes' cells and tokens, the staging cells' and the tokens of their transfers. -/
def u₀ : UU :=
  (initOf (K (F := F)).hsCells (K (F := F)).hsToks,
    (initOf (Pipeline.cells (nD := nD) (Pipeline.pin (pcfgs (F := F)) adm) cells_inj)
      (Pipeline.launchToks (nD := nD) (Pipeline.pin (pcfgs (F := F)) adm) cells_inj), 1))

theorem ghost_split (a : UH) (b : UP) :
    (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The launch element is the handshakes' ghost state and the staging cells'; the tasks keep none between calls. -/
theorem hu₀ : (ownU (u₀ (F := F)) : sProp 𝕄)
    ⊢ |={Set.univ}=> iprop(BI.own (EH (initOf (K (F := F)).hsCells (K (F := F)).hsToks)) ∗ (bigSep Finset.univ fun d : Dev nD => callGhost (F := F) d)
        ∗ bigSep Finset.univ fun thr : Thread nD τ => bigSep Finset.univ fun q : Fin 1 => (P m).x q thr) := by
  unfold u₀
  iintro Hu
  ihave H := (ghost_split _ _) $$ Hu
  icases H with ⟨HH, HP⟩
  imod (Pipeline.fund_ghost (nD := nD) (Pipeline.pin (pcfgs (F := F)) adm) EP cells_inj) $$ HP with ⟨Hc, Ht⟩
  imodintro
  isplitl [HH]; · iexact HH
  isplitl [Hc Ht]
  · unfold callGhost
    rw [bigSep_sep']
    isplitl [Hc]
    · rw [show (bigSep Finset.univ fun d : Dev nD => Pipeline.cellsGhost (Pipeline.pin (pcfgs (F := F)) adm) EP 0 d)
        = (bigSep Finset.univ fun d : Dev nD => bigSep Finset.univ fun p => Pipeline.cellsGhost (Pipeline.pin (pcfgs (F := F)) adm) EP p d : sProp 𝕄) from
        bigSep_congr fun d _ => (bigSep_univ_of_subsingleton (Φ := fun p => (Pipeline.cellsGhost (Pipeline.pin (pcfgs (F := F)) adm) EP p d : sProp 𝕄)) (0 : Fin 1)).symm]
      iexact Hc
    · rw [show (bigSep Finset.univ fun d : Dev nD => Pipeline.toksInit (Pipeline.pin (pcfgs (F := F)) adm) EP 0 d)
        = (bigSep Finset.univ fun d : Dev nD => bigSep Finset.univ fun p => Pipeline.toksInit (Pipeline.pin (pcfgs (F := F)) adm) EP p d : sProp 𝕄) from
        bigSep_congr fun d _ => (bigSep_univ_of_subsingleton (Φ := fun p => (Pipeline.toksInit (Pipeline.pin (pcfgs (F := F)) adm) EP p d : sProp 𝕄)) (0 : Fin 1)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main on the TensorCore -/

/-- The TensorCore's arrays, listed: what the slices touch, the tables, the gathered rows, the weights, what the biases'
    reshapes touch, the result. -/
theorem unscopedBufs_list (d : Dev nD) :
    (unscopedBufs d (fun b => m ((SparseCore.T d).loc b)) : sProp 𝕄)
      ⊢ iprop(held (SparseCore.T d) SA (V0 m d) ∗ (tpLoc d ↦{fullShare} m (tpLoc d)) ∗ (tnLoc d ↦{fullShare} m (tnLoc d))
          ∗ (opLoc d ↦{fullShare} m (opLoc d)) ∗ (onLoc d ↦{fullShare} m (onLoc d)) ∗ (a3Loc d ↦{fullShare} m (a3Loc d))
          ∗ (a5Loc d ↦{fullShare} m (a5Loc d)) ∗ held (SparseCore.T d) SB (V0 m d) ∗ v7Loc d ↦{fullShare} m (v7Loc d)) := by
  unfold unscopedBufs
  rw [show (Finset.univ.filter fun b : Ref sig .tc => ¬ b.isScoped)
      = {main_arg0, main_v0, main_v1, main_v2, main_v3, main_arg1, main_arg2, main_v4_0, main_v4_1, main_arg3, main_arg5, main_arg4, main_v5, main_arg6, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton, held_SA, held_SB]
  iintro ⟨H0, G0, G1, G2, G3, H1, H2, G40, G41, H3, H5, H4, G5, H6, G6, H7⟩
  isplitl [H0 G0 G1 G2 G3]
  · isplitl [H0]; · iexact H0
    isplitl [G0]; · iexact G0
    isplitl [G1]; · iexact G1
    isplitl [G2]; · iexact G2
    iexact G3
  isplitl [H1]; · iexact H1
  isplitl [H2]; · iexact H2
  isplitl [G40]; · iexact G40
  isplitl [G41]; · iexact G41
  isplitl [H3]; · iexact H3
  isplitl [H5]; · iexact H5
  isplitl [H4 G5 H6 G6]
  · isplitl [H4]; · iexact H4
    isplitl [G5]; · iexact G5
    isplitl [H6]; · iexact H6
    iexact G6
  iexact H7

/-- What the TensorCore kernel's arrays hold at its call. -/
def entry (d : Dev nD) : Entry F where
  xp := opOf m d
  xn := onOf m d
  w1 := m (a3Loc d)
  b1 := b1Of m d
  w2 := m (a5Loc d)
  b2 := b2Of m d
  out := m (v7Loc d)

/-- What @main leaves: the arguments at their launch contents, the result. -/
def FIN (d : Dev nD) : sProp 𝕄 :=
  iprop((a0Loc d ↦{fullShare} m (a0Loc d)) ∗ (tpLoc d ↦{fullShare} m (tpLoc d)) ∗ (tnLoc d ↦{fullShare} m (tnLoc d))
    ∗ (a3Loc d ↦{fullShare} m (a3Loc d)) ∗ (a4Loc d ↦{fullShare} m (a4Loc d)) ∗ (a5Loc d ↦{fullShare} m (a5Loc d))
    ∗ (a6Loc d ↦{fullShare} m (a6Loc d)) ∗ v7Loc d ↦{fullShare} outArr (entry m d) d)

/-- The last call made, the TensorCore owes nothing, whatever it waited for. -/
theorem tcSt_one (d : Dev nD) :
    ((K (F := F)).tcSt EH d 1 : sProp 𝕄)
      ⊢ iprop((∃ W, owes (SparseCore.T d) (0 : CellTallies nD τ sig (HIx 1)) W)
        ∗ ((∃ W, owes (SparseCore.T d) (0 : CellTallies nD τ sig (HIx 1)) W) -∗ (K (F := F)).tcSt EH d 1)) := by
  have hO : (K (F := F)).Otc (nD := nD) d 1 = 0 := by
    unfold SparseCore.Cfg.Otc
    exact Finset.sum_eq_zero fun q _ => if_neg (by omega)
  unfold SparseCore.Cfg.tcSt
  rw [hO]
  iintro ⟨⟨%W, -, HO⟩, Hr⟩
  isplitl [HO]
  · iexists W; iexact HO
  iintro ⟨%W', HO⟩
  isplitl [HO]
  · iexists W'
    isplitr
    · ipureintro
      intro p _
      match p with
      | (s, none) => exact Nat.zero_le _
      | (s, some q) =>
        refine ((K (F := F)).lev_some_le _ q).trans ?_
        have := q.isLt
        show 8 * q.val + 7 ≤ 8 * 1
        omega
    iexact HO
  iexact Hr

/-- @main on device `d`'s TensorCore: the slices, the gather call, the biases' reshapes, the kernel's call. -/
theorem hmain (κ : GSem nD τ sig → ℕ) (d : Dev nD) :
    iprop((K (F := F)).ctx EH (P m) κ ∗ (K (F := F)).tcSt EH d 0 ∗ (K (F := F)).tcRes m ρ d ∗ callGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hbufs, Hts, -⟩, HG⟩
  ihave Hbufs := (unscopedBufs_list m d) $$ Hbufs
  icases Hbufs with ⟨HA, Htp, Htn, Hop, Hon, H3, H5, HB, H7⟩
  iapply (wp_hlo_within 𝒱 (SparseCore.T d) none Set.univ (op := opS0) (S := SA) hS0 (V := V0 m d)) $$ [Hb HA]
  · isplitl [Hb] <;> iassumption
  iintro ⟨Hb, HA⟩
  rw [wp_ret]; imodintro
  iapply (wp_hlo_within 𝒱 (SparseCore.T d) none Set.univ (op := opR0) (S := SA) hR0 (V := opS0.result (V0 m d))) $$ [Hb HA]
  · isplitl [Hb] <;> iassumption
  iintro ⟨Hb, HA⟩
  rw [wp_ret]; imodintro
  iapply (wp_hlo_within 𝒱 (SparseCore.T d) none Set.univ (op := opS1) (S := SA) hS1 (V := opR0.result (opS0.result (V0 m d)))) $$ [Hb HA]
  · isplitl [Hb] <;> iassumption
  iintro ⟨Hb, HA⟩
  rw [wp_ret]; imodintro
  iapply (wp_hlo_within 𝒱 (SparseCore.T d) none Set.univ (op := opR1) (S := SA) hR1 (V := opS1.result (opR0.result (opS0.result (V0 m d))))) $$ [Hb HA]
  · isplitl [Hb] <;> iassumption
  iintro ⟨Hb, HA⟩
  rw [wp_ret]; imodintro
  ihave HA := (Entails.of_eq (held_VA m d)) $$ HA
  icases HA with ⟨H0, -, Hip, -, Hin⟩
  ihave Hdeal := (call_deal m d) $$ [Htp Htn Hip Hin Hop Hon]
  · isplitl [Htp Htn Hip Hin]
    · unfold reads
      isplitl [Htp]; · iexact Htp
      isplitl [Htn]; · iexact Htn
      isplitl [Hip]; · iexact Hip
      iexact Hin
    isplitl [Hop]; · iexact Hop
    iexact Hon
  icases Hdeal with ⟨Hrest, Hgo⟩
  iapply ((K (F := F)).wp_run (D (F := F)) 𝒱 (EH := EH) (P := P m) κ d 0) $$ [Hst Hgo Hrest Hb H0 H3 H5 HB H7 Hts HG]
  isplitr; · iexact Hctx
  isplitl [Hst]; · iexact Hst
  isplitl [Hgo]; · iexact Hgo
  iintro ⟨Hst, Hdn⟩
  ihave Hg := (call_gather m d) $$ [Hrest Hdn]
  · isplitl [Hrest] <;> iassumption
  icases Hg with ⟨Hr, Hop, Hon⟩
  unfold reads
  icases Hr with ⟨Htp, Htn, -, -⟩
  iapply (wp_hlo_within 𝒱 (SparseCore.T d) none Set.univ (op := opB1) (S := SB) hB1 (V := V0 m d)) $$ [Hb HB]
  · isplitl [Hb] <;> iassumption
  iintro ⟨Hb, HB⟩
  rw [wp_ret]; imodintro
  iapply (wp_hlo_within 𝒱 (SparseCore.T d) none Set.univ (op := opB2) (S := SB) hB2 (V := opB1.result (V0 m d))) $$ [Hb HB]
  · isplitl [Hb] <;> iassumption
  iintro ⟨Hb, HB⟩
  rw [wp_ret]; imodintro
  ihave HB := (Entails.of_eq (held_VB m d)) $$ HB
  icases HB with ⟨H4, Hv5, H6, Hv6⟩
  ihave Hst := (show (K (F := F)).tcSt EH d ((0 : Fin 1).val + 1) ⊢ _ from tcSt_one d) $$ Hst
  icases Hst with ⟨HO, Hst⟩
  iapply (call_wp (entry m d) d _)
  isplitl [Hst H0 Htp Htn H4 H6 Hts]
  · iintro ⟨Hb, Hp, HO⟩
    unfold callPts
    icases Hp with ⟨-, -, H3, -, H5, -, H7⟩
    imodintro
    isplitl [Hst HO]; · iapply Hst; iexact HO
    isplitr [Hb Hts]
    · unfold FIN
      isplitl [H0]; · iexact H0
      isplitl [Htp]; · iexact Htp
      isplitl [Htn]; · iexact Htn
      isplitl [H3]; · iexact H3
      isplitl [H4]; · iexact H4
      isplitl [H5]; · iexact H5
      isplitl [H6]; · iexact H6
      iexact H7
    isplitl [Hb] <;> iassumption
  isplitl [Hb]; · iexact Hb
  isplitl [Hop Hon H3 Hv5 H5 Hv6 H7]
  · unfold callPts
    isplitl [Hop]; · iexact Hop
    isplitl [Hon]; · iexact Hon
    isplitl [H3]; · iexact H3
    isplitl [Hv5]; · iexact Hv5
    isplitl [H5]; · iexact H5
    isplitl [Hv6]; · iexact Hv6
    iexact H7
  isplitl [HO]; · iexact HO
  isplitr; · iapply (SparseCore.Cfg.ctx_levAts κ); iexact Hctx
  iexact HG

end Cert.Proof.Gather
-- ==== Proof.Run.lean ====
/-
  The launch: every thread of the program runs to its end, the arguments are unchanged, the result is at what the
  TensorCore kernel's points leave, and every semaphore is back at zero.
-/
module

public import proofs.«01_k».proof.Proof.Main

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

set_option maxRecDepth 16384

variable {F : FTy → Type} [FloatOps F]

local notation "𝕄" => MT nD τ sig (HIx 1) (Elt F) ℕ UU ℕ

variable [∀ e, Nonempty (Elt F e)] (m : (ℓ : Loc nD τ sig) → Buf (Elt F) ℓ) (ρ : Dev nD → PrngReg)

/-- An array held whole at the end is in the final memory at what it is held at. -/
theorem at_end (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- What device `d`'s part of the final memory holds. -/
def fq (d : Dev nD) (s' : Phys nD τ sig (Elt F)) : Prop :=
  s'.mem.mem (v7Loc d) = outArr (entry m d) d
    ∧ s'.mem.mem (a0Loc d) = m (a0Loc d) ∧ s'.mem.mem (tpLoc d) = m (tpLoc d) ∧ s'.mem.mem (tnLoc d) = m (tnLoc d)
    ∧ s'.mem.mem (a3Loc d) = m (a3Loc d) ∧ s'.mem.mem (a4Loc d) = m (a4Loc d) ∧ s'.mem.mem (a5Loc d) = m (a5Loc d)
    ∧ s'.mem.mem (a6Loc d) = m (a6Loc d)

/-- What @main leaves says what the final memory holds. -/
theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7⟩, HS⟩
  ihave H := (at_end s' _ _) $$ [HS H0]
  · isplitl [HS] <;> iassumption
  icases H with ⟨%h0, HS⟩
  ihave H := (at_end s' _ _) $$ [HS H1]
  · isplitl [HS] <;> iassumption
  icases H with ⟨%h1, HS⟩
  ihave H := (at_end s' _ _) $$ [HS H2]
  · isplitl [HS] <;> iassumption
  icases H with ⟨%h2, HS⟩
  ihave H := (at_end s' _ _) $$ [HS H3]
  · isplitl [HS] <;> iassumption
  icases H with ⟨%h3, HS⟩
  ihave H := (at_end s' _ _) $$ [HS H4]
  · isplitl [HS] <;> iassumption
  icases H with ⟨%h4, HS⟩
  ihave H := (at_end s' _ _) $$ [HS H5]
  · isplitl [HS] <;> iassumption
  icases H with ⟨%h5, HS⟩
  ihave H := (at_end s' _ _) $$ [HS H6]
  · isplitl [HS] <;> iassumption
  icases H with ⟨%h6, HS⟩
  ihave H := (at_end s' _ _) $$ [HS H7]
  · isplitl [HS] <;> iassumption
  icases H with ⟨%h7, -⟩
  ipureintro
  exact ⟨h7, h0, h1, h2, h3, h4, h5, h6⟩

/-- What the final memory holds: every device's part, and every semaphore at zero. -/
def QC : PUnit × MemSt nD τ sig (Elt F) → Prop := fun r =>
  (∀ d : Dev nD, r.2.mem (v7Loc d) = outArr (entry m d) d
    ∧ r.2.mem (a0Loc d) = m (a0Loc d) ∧ r.2.mem (tpLoc d) = m (tpLoc d) ∧ r.2.mem (tnLoc d) = m (tnLoc d)
    ∧ r.2.mem (a3Loc d) = m (a3Loc d) ∧ r.2.mem (a4Loc d) = m (a4Loc d) ∧ r.2.mem (a5Loc d) = m (a5Loc d)
    ∧ r.2.mem (a6Loc d) = m (a6Loc d)) ∧ r.2.sem = fun _ => 0

/-- The run: from any memory whose row numbers name rows, the program ends with its result at what the kernel's points
    leave, its arguments unchanged and its semaphores at zero. -/
theorem run_main (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => callGhost (F := F) d) (FIN m) (u₀ (F := F)) (sep_elim_left.trans (hu₀ m)) (hmain m ρ) (fq m) (hfin m) (QC m) (fun _ h hz => ⟨h, hz⟩)

end Cert.Proof.Gather
-- ==== Proof.Frames.lean ====
/-
  The frame claims: the precondition gives the run its range of row numbers, and the runs' results are dropped.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_in_range
public import Idealize.ShloMosaic.Lib.ReduceAll

@[expose] public section

set_option maxRecDepth 16384

noncomputable section

namespace Cert.Proof.Gather

open Idealize.ShloMosaic Idealize.SL.Sem

/-- The precondition, all ones, says that every row number names a row. -/
theorem row_of_pre {F : FTy → Type} [FloatOps F] (x : IVec Cert.Pre_in_range.S16384x2 32) (x1 x2 x3 x4 x5 x6)
    (h : Cert.Pre_in_range.fn (F := F) x x1 x2 x3 x4 x5 x6 = fun _ => 1#1) (j : Cert.Pre_in_range.S16384x2.Idx) : (x j).toNat < 100000 := by
  have : Subsingleton Cert.Pre_in_range.S_.Idx := ⟨fun a b => funext fun i => i.elim0⟩
  have e := Host.reduce_andi_all _ _ _ _ (fun i => i.elim0) (congrFun h fun i => i.elim0) j
  have e := IntOp.andi_eq_one.1 e
  have h1 : (0#32 : BitVec 32).toInt ≤ (x j).toInt := IntOp.cmpi_sge.1 e.1
  have h2 : (x j).toInt < (100000#32 : BitVec 32).toInt := IntOp.cmpi_slt.1 e.2
  simp only [BitVec.toInt_eq_toNat_cond, BitVec.toNat_ofNat, Nat.reducePow, Nat.reduceMod] at h1 h2
  omega

/-- The precondition at the launch memory of the program read as extended reals. -/
theorem ok_ideal (m : (ℓ : Loc Cert.KernelIdeal.nD Cert.KernelIdeal.τ Cert.KernelIdeal.sig) → Buf (Elt Ideal) ℓ) (h : Cert.Pre_KernelIdeal m) :
    PreOK m := fun d j => row_of_pre _ _ _ _ _ _ _ (h d) j

/-- The precondition at the launch memory of the program as printed. -/
theorem ok_bits (m : (ℓ : Loc Cert.Kernel.nD Cert.Kernel.τ Cert.Kernel.sig) → Buf (Elt Bits) ℓ) (h : Cert.Pre_Kernel m) :
    PreOK (F := Bits) m := fun d j => row_of_pre _ _ _ _ _ _ _ (h d) j

/-- `Cert.quiescent_KernelIdeal`. -/
theorem frame_KernelIdeal : Cert.quiescent_KernelIdeal := fun m g hpre =>
  (θ_run Cert.KernelIdeal.defs _ _).mono (fun _ h => ⟨fun c => (h.1 c).2, h.2⟩) (run_main m g (ok_ideal m hpre))

/-- The two programs' kernels are one table: compared label by label. -/
theorem defs₀_eq : Cert.Kernel.defs₀ (F := Bits) = Cert.KernelIdeal.defs₀ (F := Bits) := by
  funext k l a
  cases k with
  | tc => match l, a with
    | 0, _ => rfl
    | 1, (_, _) => rfl
  | scScalar c => match l, a with
    | 0, _ => rfl
    | 1, (_, _) => rfl
  | scVector c s => match l, a with
    | 0, _ => rfl
    | 1, (_, _) => rfl

/-- The two programs' body tables are one. -/
theorem defs_eq : Cert.Kernel.defs (F := Bits) = Cert.KernelIdeal.defs (F := Bits) :=
  congrArg (fun D => Cert.KernelIdeal.sc.defs (Pipeline.defs Cert.KernelIdeal.pcfgs D)) defs₀_eq

/-- `Cert.quiescent_Kernel`: the two programs are one text. -/
theorem frame_Kernel : Cert.quiescent_Kernel := fun m g hpre => by
  rw [defs_eq]
  exact (θ_run Cert.KernelIdeal.defs _ _).mono (fun _ h => ⟨fun c => (h.1 c).2, h.2⟩) (run_main (F := Bits) m g (ok_bits m hpre))

/-- `Cert.quiescent_ReferenceIdeal`: the reference has no semaphores. -/
theorem frame_ReferenceIdeal : Cert.quiescent_ReferenceIdeal := fun m g _ =>
  (θ_run Cert.ReferenceIdeal.defs _ _).mono
    (fun _ h => ⟨fun c => (h c).2, funext fun s => match s with
      | (_, .reg s) => s.elim0
      | (_, .dma s) => s.elim0⟩) (Cert.ReferenceIdeal.Value.run m g)

end Cert.Proof.Gather
-- ==== Proof.Value.lean ====
/-
  The result's values over the extended reals: what the TensorCore's kernel leaves at each row.
-/
module

public import proofs.«01_k».proof.Proof.Call
public import Idealize.ShloMosaic.Lib.Pipeline.ValueKit
public import Idealize.ShloMosaic.Lib.Pointwise

@[expose] public section

set_option maxRecDepth 16384

noncomputable section

namespace Cert.Proof.Gather

open Cert.KernelIdeal Cert.KernelIdeal.Gen

open Idealize.ShloMosaic
open Idealize.ShloMosaic.TcCoe
open Idealize.SL Idealize.SL.Sem
open Idealize.ShloMosaic.Pipeline (Dat Cfg Window)

/-- The two-layer network on the two gathered arrays: per row, each of 64 hidden sums over the two halves of the first
    weights, with its bias, clipped below at zero and weighed by the second weights, their sum with the second bias. -/
def mlp (xp xn : FVec Ideal S16384x128 .f32) (w1 : FVec Ideal S64x256 .f32) (b1 : FVec Ideal S1x64 .f32) (w2 : FVec Ideal S1x64 .f32)
    (b2 : FVec Ideal S1x1 .f32) : FVec Ideal S16384x1 .f32 := fun i =>
  ∑ k : Fin 64, max (∑ j : Fin 128, xp (ix2 (i 0) j) * w1 (ix2 k (Fin.castAdd 128 j))
      + ∑ j : Fin 128, xn (ix2 (i 0) j) * w1 (ix2 k (Fin.natAdd 128 j)) + b1 (ix2 0 k)) 0 * w2 (ix2 0 k) + b2 (ix2 0 0)

/-- The kernel's payload at a row of its block. -/
theorem pay_at (xp xn : FVec Ideal S8192x128 .f32) (wp wn : FVec Ideal S64x128 .f32) (b1 w2 : FVec Ideal S1x64 .f32) (b2 : FVec Ideal S1x1 .f32) (y : S8192x1.Idx) :
    k1_pay1 (F := Ideal) xp wp xn wn b1 w2 b2 y
      = ∑ k : Fin 64, max (∑ j : Fin 128, xp (ix2 (y 0) j) * wp (ix2 k j) + ∑ j : Fin 128, xn (ix2 (y 0) j) * wn (ix2 k j) + b1 (ix2 0 k)) 0
          * w2 (ix2 0 k) + b2 (ix2 0 0) := by
  pointwise [k1_pay1]

/-- Where each window's block lies at a point. -/
theorem idx : ∀ t : Fin cfg1.N, win1_0.index t = ![t.val, 0] ∧ win1_1.index t = ![t.val, 0] ∧ win1_2.index t = ![0, 0] ∧ win1_3.index t = ![0, 1]
    ∧ win1_4.index t = ![0, 0] ∧ win1_5.index t = ![0, 0] ∧ win1_6.index t = ![0, 0] ∧ win1_7.index t = ![t.val, 0] :=
  (by decide +kernel : ∀ t : Fin grid1.N, _)

variable (X : Entry Ideal)

/-- The result's array after the run: the network on the gathered arrays. -/
theorem out_eq (c : Dev nD) : outArr X c = mlp X.xp X.xn X.w1 X.b1 X.w2 X.b2 := by
  refine (dat X c).arrAt_eq_of_covers 7 _ (by decide +kernel) fun t hf y => ?_
  blk_simp
  refine (pay_at (stg X c 0 t) (stg X c 1 t) (stg X c 2 t) (stg X c 3 t) (stg X c 4 t) (stg X c 5 t) (stg X c 6 t) y).trans ?_
  unfold mlp stg
  blk_point [arrs, idx t]
  all_goals rfl

end Cert.Proof.Gather
-- ==== Proof.Reference.lean ====
/-
  The reference's values over the extended reals: its row look-ups at row numbers in range, and its result.
-/
module

public import proofs.«01_k».proof.Proof.Value
public import proofs.«01_k».proof.Proof.Gen.ReferenceIdeal.Run
public import Idealize.ShloMosaic.Lib.ReduceAll
public import Idealize.ShloMosaic.Lib.WordCmp
public import Idealize.ShloMosaic.Lib.ValueIdxCore

@[expose] public section

set_option maxRecDepth 16384

noncomputable section

namespace Cert.Proof.Gather

open Cert.ReferenceIdeal Cert.ReferenceIdeal.Gen

open Idealize.ShloMosaic
open Idealize.ShloMosaic.TcCoe
open Idealize.SL Idealize.SL.Sem

/-- The row numbers as the reference wraps them: a negative one counts from the end. -/
def wrapped (i : IVec S16384 32) : IVec S16384x1 32 :=
  broadcastInDim S16384x1 ![0] bcast_S16384_S16384x1_0 (select (cmpi .slt i (broadcastInDim S16384 ![] bcast_S_S16384 (constantI S_ 32 0#32)))
    (addi i (broadcastInDim S16384 ![] bcast_S_S16384 (constantI S_ 32 100000#32))) i)

/-- Which of them name a row. -/
def inside (i : IVec S16384 32) : IVec S16384 1 :=
  Host.reduce IntOp.andi (andi (cmpi .sge (wrapped i) (broadcastInDim S16384x1 ![] bcast_S_S16384x1 (constantI S_ 32 0#32)))
    (cmpi .sle (wrapped i) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The reference's look-up of rows: those that name none read as a quiet NaN. -/
def taken (t : FVec Ideal S100000x128 .f32) (i : IVec S16384 32) : FVec Ideal S16384x128 .f32 :=
  select (broadcastInDim S16384x128 ![0] bcast_S16384_S16384x128_0 (inside i))
    (Host.gather gather_S100000x128_S16384x1_S16384x128_1_0_n_n_0_1_1128 t (wrapped i))
    (broadcastInDim S16384x128 ![] bcast_S_S16384x128 (constant S_ .f32 0x7FC00000#32))

/-- A column of the row numbers. -/
def refCol0 (x : IVec S16384x2 32) : IVec S16384 32 :=
  shapeCast _ (extractStridedSlice S16384x1 ![0, 0] x slices_S16384x2_S16384x1_0_0) shapeCasts_S16384x1_S16384
/-- The other column. -/
def refCol1 (x : IVec S16384x2 32) : IVec S16384 32 :=
  shapeCast _ (extractStridedSlice S16384x1 ![0, 1] x slices_S16384x2_S16384x1_0_1) shapeCasts_S16384x1_S16384

/-- The reference's network on two looked-up arrays. -/
def net (xp xn : FVec Ideal S16384x128 .f32) (w1 : FVec Ideal S64x256 .f32) (b1 : FVec Ideal S64 .f32) (w2 : FVec Ideal S1x64 .f32)
    (b2 : FVec Ideal S1 .f32) : FVec Ideal S16384x1 .f32 :=
  addf (Host.dotGeneral dot_S16384x64_S64x1_S16384x1_1_0_0_1_n_n none (maximumf (addf (Host.dotGeneral dot_S16384x256_S256x64_S16384x64_1_0_0_1_n_n none
    (concatenate S16384x256 1 [⟨S16384x128, xp⟩, ⟨S16384x128, xn⟩] concatenates_S16384x128_S16384x128_S16384x256_d1)
    (transpose S256x64 [1, 0] w1 transposes_S64x256_S256x64_1_0)) (broadcastInDim S16384x64 ![0, 1] bcast_S1x64_S16384x64_0_1 (broadcastInDim S1x64 ![1] bcast_S64_S1x64_1 b1)))
    (broadcastInDim S16384x64 ![] bcast_S_S16384x64 (constant S_ .f32 0x00000000#32))) (transpose S64x1 [1, 0] w2 transposes_S1x64_S64x1_1_0))
    (broadcastInDim S16384x1 ![0, 1] bcast_S1x1_S16384x1_0_1 (broadcastInDim S1x1 ![1] bcast_S1_S1x1_1 b2))

/-- The reference's result, by its parts. -/
theorem res_eq (m : (ℓ : Loc nD τ sig) → Buf (Elt Ideal) ℓ) (c : Dev nD) :
    Value.res_main_v18 m c = net (taken (m ((c.tc : Thread nD τ).loc main_arg1)) (refCol0 (m ((c.tc : Thread nD τ).loc main_arg0))))
      (taken (m ((c.tc : Thread nD τ).loc main_arg2)) (refCol1 (m ((c.tc : Thread nD τ).loc main_arg0)))) (m ((c.tc : Thread nD τ).loc main_arg3))
      (m ((c.tc : Thread nD τ).loc main_arg4)) (m ((c.tc : Thread nD τ).loc main_arg5)) (m ((c.tc : Thread nD τ).loc main_arg6)) := rfl

/-- A column's entry is the row's. -/
theorem refCol0_at (x : IVec S16384x2 32) (j : S16384.Idx) : refCol0 x j = x (ix2 (j 0) (0 : Fin 2)) := by
  pointwise [refCol0]

/-- The other column's entry. -/
theorem refCol1_at (x : IVec S16384x2 32) (j : S16384.Idx) : refCol1 x j = x (ix2 (j 0) (1 : Fin 2)) := by
  pointwise [refCol1]

variable (i : IVec S16384 32) (h : ∀ j, (i j).toNat < 100000)
include h

/-- A row number in range, read signed, is the number itself. -/
theorem toInt_row (j : S16384.Idx) : (i j).toInt = (i j).toNat := by
  rw [BitVec.toInt_eq_toNat_cond, if_pos (by have := h j; omega)]

/-- A row number in range is not wrapped. -/
theorem wrapped_at (j : S16384x1.Idx) : wrapped i j = i (ix1 (j 0)) := by
  pointwise [wrapped]
  have hn := h (ix1 (j 0))
  rw [WordCmp.cmpi_slt_zero, decide_eq_false (by omega)]
  rfl

/-- Every row number in range names a row. -/
theorem inside_at (j : S16384.Idx) : inside i j = 1#1 := by
  refine Host.reduce_andi_one _ _ _ _ _ rfl fun k => ?_
  refine IntOp.andi_eq_one.2 ⟨IntOp.cmpi_sge.2 ?_, IntOp.cmpi_sle.2 ?_⟩ <;> rw [wrapped_at i h, toInt_row i h]
  · show (0#32 : BitVec 32).toInt ≤ _
    simp
  · show _ ≤ (99999#32 : BitVec 32).toInt
    have := h (ix1 (k 0)); simp; omega

omit h in
/-- The gather of rows at an index: the row is the start index, read signed and kept inside the table. -/
theorem gather_at (t : FVec Ideal S100000x128 .f32) (I : IVec S16384x1 32) (x : S16384x128.Idx) (r : Fin 100000)
    (hr : min (I (ix2 (x 0) (0 : Fin 1))).toInt.toNat 99999 = r.val) :
    Host.gather gather_S100000x128_S16384x1_S16384x128_1_0_n_n_0_1_1128 t I x = t (ix2 r (x 1)) := by
  let G := gather_S100000x128_S16384x1_S16384x128_1_0_n_n_0_1_1128
  have h0 : (0 : Fin 2) ∈ G.startIndexMap := List.mem_singleton.mpr rfl
  have e : G.siIdx x ⟨List.idxOf (0 : Fin 2) G.startIndexMap, List.idxOf_lt_length_iff.2 h0⟩ = ix2 (x 0) (0 : Fin 1) := by
    funext b; refine Fin.ext ?_
    match b with
    | ⟨0, _⟩ => rfl
    | ⟨1, _⟩ => rfl
  have hs0 : G.start x I (0 : Fin 2) = r.val := by
    refine (dif_pos h0).trans ?_
    rw [e]
    exact hr
  have hs1 : G.start x I (1 : Fin 2) = 0 := dif_neg (show ¬ (1 : Fin 2) ∈ ([0] : List (Fin 2)) from by decide)
  have hb (a : Fin 2) : G.batchCoord x a = 0 := G.batchCoord_eq_zero x a List.not_mem_nil
  have ho0 : G.offCoord x (0 : Fin 2) = 0 := G.offCoord_eq_zero x _ (fun h => ((G.mem_sKept _).mp h).1 (List.mem_singleton.mpr rfl))
  have ho1 : G.offCoord x (1 : Fin 2) = (x 1).val := rfl
  refine congrArg t (funext fun a => Fin.ext ?_)
  match a with
  | ⟨0, _⟩ =>
    show G.start x I (0 : Fin 2) + G.batchCoord x (0 : Fin 2) + G.offCoord x (0 : Fin 2) = r.val
    rw [hs0, hb, ho0, Nat.add_zero]
  | ⟨1, _⟩ =>
    show G.start x I (1 : Fin 2) + G.batchCoord x (1 : Fin 2) + G.offCoord x (1 : Fin 2) = (x 1).val
    rw [hs1, hb, ho1, Nat.add_zero, Nat.zero_add]

/-- The look-up at row numbers in range is the plain gather of rows. -/
theorem taken_eq (t : FVec Ideal S100000x128 .f32) : taken t i = gath (F := Ideal) t i := by
  funext x
  have hb : broadcastInDim S16384x128 ![0] bcast_S16384_S16384x128_0 (inside i) x = 1#1 := inside_at i h _
  unfold taken
  rw [ValueIdx.select_apply, hb, WordCmp.select_one]
  refine gather_at t (wrapped i) x (rowOf (i (ix1 (x 0)))) ?_
  have e : wrapped i (ix2 (x 0) (0 : Fin 1)) = i (ix1 (x 0)) := wrapped_at i h _
  have hn := h (ix1 (x 0))
  rw [e, toInt_row i h, rowOf_val hn, Int.toNat_natCast]
  omega

omit h in
/-- The reference's network is the kernel's. -/
theorem net_eq (xp xn : FVec Ideal S16384x128 .f32) (w1 : FVec Ideal S64x256 .f32) (b1 : FVec Ideal S64 .f32) (w2 : FVec Ideal S1x64 .f32)
    (b2 : FVec Ideal S1 .f32) : net xp xn w1 b1 w2 b2 = mlp xp xn w1 (fun j => b1 (ix1 (j 1))) w2 (fun j => b2 (ix1 (j 1))) := by
  funext y
  pointwise [net]
  rfl

end Cert.Proof.Gather
-- ==== Proof.Algebraic.lean ====
/-
  The value claim: from memories that agree on the arguments, with the row numbers in range, the kernel's program and the
  reference end with one result.
-/
module

public import proofs.«01_k».proof.Proof.Frames
public import proofs.«01_k».proof.Proof.Reference

@[expose] public section

set_option maxRecDepth 16384

noncomputable section

namespace Cert.Proof.Gather

open Idealize.ShloMosaic Idealize.SL.Sem

/-- The reference's result is the kernel's, from memories that agree on the arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : PreOK m) (c : Dev Cert.KernelIdeal.nD)
    (h0 : m' ((c.tc : Thread Cert.ReferenceIdeal.nD Cert.ReferenceIdeal.τ).loc Cert.ReferenceIdeal.main_arg0) = m (iiLoc c))
    (h1 : m' ((c.tc : Thread Cert.ReferenceIdeal.nD Cert.ReferenceIdeal.τ).loc Cert.ReferenceIdeal.main_arg1) = m (tpLoc c))
    (h2 : m' ((c.tc : Thread Cert.ReferenceIdeal.nD Cert.ReferenceIdeal.τ).loc Cert.ReferenceIdeal.main_arg2) = m (tnLoc c))
    (h3 : m' ((c.tc : Thread Cert.ReferenceIdeal.nD Cert.ReferenceIdeal.τ).loc Cert.ReferenceIdeal.main_arg3) = m (a3Loc c))
    (h4 : m' ((c.tc : Thread Cert.ReferenceIdeal.nD Cert.ReferenceIdeal.τ).loc Cert.ReferenceIdeal.main_arg4) = m (a4Loc c))
    (h5 : m' ((c.tc : Thread Cert.ReferenceIdeal.nD Cert.ReferenceIdeal.τ).loc Cert.ReferenceIdeal.main_arg5) = m (a5Loc c))
    (h6 : m' ((c.tc : Thread Cert.ReferenceIdeal.nD Cert.ReferenceIdeal.τ).loc Cert.ReferenceIdeal.main_arg6) = m (a6Loc c)) :
    Cert.ReferenceIdeal.Value.res_main_v18 m' c = outArr (entry m c) c := by
  have e0 : refCol0 (m (iiLoc c)) = ipOf m c := funext fun j => refCol0_at _ j
  have e1 : refCol1 (m (iiLoc c)) = inOf m c := funext fun j => refCol1_at _ j
  rw [res_eq, h0, h1, h2, h3, h4, h5, h6, out_eq, e0, e1, taken_eq (ipOf m c) fun j => hpre c _, taken_eq (inOf m c) fun j => hpre c _, net_eq]
  rfl

/-- `Cert.algebraic_KernelIdeal_ReferenceIdeal`. -/
theorem algebraic : Cert.algebraic_KernelIdeal_ReferenceIdeal := fun m g m' g' hpre hargs =>
  ⟨fun c => outArr (entry m c) c,
    (θ_run Cert.KernelIdeal.defs _ _).mono (fun _ h => h.1) (run_main m g (ok_ideal m hpre)),
    (θ_run Cert.ReferenceIdeal.defs _ _).mono (fun _ h c =>
      have a := hargs c
      ⟨(h c).1.trans (value_eq m m' (ok_ideal m hpre) c a.1 a.2.1 a.2.2.1 a.2.2.2.1 a.2.2.2.2.1 a.2.2.2.2.2.1 a.2.2.2.2.2.2), (h c).2⟩)
      (Cert.ReferenceIdeal.Value.run m' g')⟩

end Cert.Proof.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate: the three frames, the two programs' one text, and the value claim. -/
theorem claim : Cert.Claim := ⟨Cert.Kernel.Gen.facts, Cert.KernelIdeal.Gen.facts, Cert.ReferenceIdeal.Gen.facts, Cert.Pre_in_range.Gen.facts,
  Gather.frame_Kernel, Gather.frame_KernelIdeal, Gather.frame_ReferenceIdeal, trivial, Gather.algebraic⟩

end Cert.Proof

end
